-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x6144 : Shape := ⟨3, ![3, 1024, 6144]⟩
abbrev S3072x16384 : Shape := ⟨2, ![3072, 16384]⟩
abbrev S48x16384 : Shape := ⟨2, ![48, 16384]⟩
abbrev S2x2 : Shape := ⟨2, ![2, 2]⟩
abbrev S3072x6144 : Shape := ⟨2, ![3072, 6144]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S_ : Shape := ⟨0, ![]⟩
abbrev S1x128x1x128 : Shape := ⟨4, ![1, 128, 1, 128]⟩
abbrev S2x128x2x128 : Shape := ⟨4, ![2, 128, 2, 128]⟩
abbrev S256x256 : Shape := ⟨2, ![256, 256]⟩
abbrev S24x1x128 : Shape := ⟨3, ![24, 1, 128]⟩
abbrev S3072x128 : Shape := ⟨2, ![3072, 128]⟩
abbrev S128x6144 : Shape := ⟨2, ![128, 6144]⟩
abbrev S1x1x128 : Shape := ⟨3, ![1, 1, 128]⟩
abbrev S128x256 : Shape := ⟨2, ![128, 256]⟩
abbrev S128 : Shape := ⟨1, ![128]⟩
abbrev S128x1 : Shape := ⟨2, ![128, 1]⟩
abbrev S1x128 : Shape := ⟨2, ![1, 128]⟩
abbrev S512x6144 : Shape := ⟨2, ![512, 6144]⟩
abbrev S3072x1024 : Shape := ⟨2, ![3072, 1024]⟩
abbrev S48x1024 : Shape := ⟨2, ![48, 1024]⟩
abbrev S512x128 : Shape := ⟨2, ![512, 128]⟩
abbrev S512x1024 : Shape := ⟨2, ![512, 1024]⟩
abbrev S6144x1024 : Shape := ⟨2, ![6144, 1024]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1024 : Shape := ⟨2, ![1, 1024]⟩
abbrev S512x1 : Shape := ⟨2, ![512, 1]⟩
abbrev S3x1024x16384 : Shape := ⟨3, ![3, 1024, 16384]⟩
abbrev S3x1024 : Shape := ⟨2, ![3, 1024]⟩

abbrev nBuf : Space → Nat
  | .hbm => 68
  | .vmem => 32
  | .smem => 0
  | _ => 0

abbrev bufTy : (tb : Table) → Fin (tcTables nBuf tb) → BufTy
  | .hbm, ⟨0, _⟩ => ⟨S3x1024x6144, .bf16⟩
  | .hbm, ⟨1, _⟩ => ⟨S3x1024x6144, .bf16⟩
  | .hbm, ⟨2, _⟩ => ⟨S3072x16384, .i8⟩
  | .hbm, ⟨3, _⟩ => ⟨S48x16384, .f32⟩
  | .hbm, ⟨4, _⟩ => ⟨S48x16384, .f32⟩
  | .hbm, ⟨5, _⟩ => ⟨S2x2, .f32⟩
  | .hbm, ⟨6, _⟩ => ⟨S3072x6144, .bf16⟩
  | .hbm, ⟨7, _⟩ => ⟨S3072x6144, .bf16⟩
  | .hbm, ⟨8, _⟩ => ⟨S2x1x2x1, .f32⟩
  | .hbm, ⟨9, _⟩ => ⟨S1x2x1x2, .f32⟩
  | .hbm, ⟨10, _⟩ => ⟨S2x2x2x2, .f32⟩
  | .hbm, ⟨11, _⟩ => ⟨S2x2x2x2, .f32⟩
  | .hbm, ⟨12, _⟩ => ⟨S2x2x2x2, .f32⟩
  | .hbm, ⟨13, _⟩ => ⟨S4x4, .f32⟩
  | .hbm, ⟨14, _⟩ => ⟨S4x1x4x1, .f32⟩
  | .hbm, ⟨15, _⟩ => ⟨S1x2x1x2, .f32⟩
  | .hbm, ⟨16, _⟩ => ⟨S4x2x4x2, .f32⟩
  | .hbm, ⟨17, _⟩ => ⟨S4x2x4x2, .f32⟩
  | .hbm, ⟨18, _⟩ => ⟨S4x2x4x2, .f32⟩
  | .hbm, ⟨19, _⟩ => ⟨S8x8, .f32⟩
  | .hbm, ⟨20, _⟩ => ⟨S8x1x8x1, .f32⟩
  | .hbm, ⟨21, _⟩ => ⟨S1x2x1x2, .f32⟩
  | .hbm, ⟨22, _⟩ => ⟨S8x2x8x2, .f32⟩
  | .hbm, ⟨23, _⟩ => ⟨S8x2x8x2, .f32⟩
  | .hbm, ⟨24, _⟩ => ⟨S8x2x8x2, .f32⟩
  | .hbm, ⟨25, _⟩ => ⟨S16x16, .f32⟩
  | .hbm, ⟨26, _⟩ => ⟨S16x1x16x1, .f32⟩
  | .hbm, ⟨27, _⟩ => ⟨S1x2x1x2, .f32⟩
  | .hbm, ⟨28, _⟩ => ⟨S16x2x16x2, .f32⟩
  | .hbm, ⟨29, _⟩ => ⟨S16x2x16x2, .f32⟩
  | .hbm, ⟨30, _⟩ => ⟨S16x2x16x2, .f32⟩
  | .hbm, ⟨31, _⟩ => ⟨S32x32, .f32⟩
  | .hbm, ⟨32, _⟩ => ⟨S32x1x32x1, .f32⟩
  | .hbm, ⟨33, _⟩ => ⟨S1x2x1x2, .f32⟩
  | .hbm, ⟨34, _⟩ => ⟨S32x2x32x2, .f32⟩
  | .hbm, ⟨35, _⟩ => ⟨S32x2x32x2, .f32⟩
  | .hbm, ⟨36, _⟩ => ⟨S32x2x32x2, .f32⟩
  | .hbm, ⟨37, _⟩ => ⟨S64x64, .f32⟩
  | .hbm, ⟨38, _⟩ => ⟨S64x1x64x1, .f32⟩
  | .hbm, ⟨39, _⟩ => ⟨S1x2x1x2, .f32⟩
  | .hbm, ⟨40, _⟩ => ⟨S64x2x64x2, .f32⟩
  | .hbm, ⟨41, _⟩ => ⟨S64x2x64x2, .f32⟩
  | .hbm, ⟨42, _⟩ => ⟨S64x2x64x2, .f32⟩
  | .hbm, ⟨43, _⟩ => ⟨S128x128, .f32⟩
  | .hbm, ⟨44, _⟩ => ⟨S2x2, .i32⟩
  | .hbm, ⟨45, _⟩ => ⟨S2x2, .i32⟩
  | .hbm, ⟨46, _⟩ => ⟨S_, .i32⟩
  | .hbm, ⟨47, _⟩ => ⟨S2x2, .i32⟩
  | .hbm, ⟨48, _⟩ => ⟨S2x2, .i32⟩
  | .hbm, ⟨49, _⟩ => ⟨S2x2, .i1⟩
  | .hbm, ⟨50, _⟩ => ⟨S2x2, .f32⟩
  | .hbm, ⟨51, _⟩ => ⟨S2x1x2x1, .f32⟩
  | .hbm, ⟨52, _⟩ => ⟨S1x128x1x128, .f32⟩
  | .hbm, ⟨53, _⟩ => ⟨S2x128x2x128, .f32⟩
  | .hbm, ⟨54, _⟩ => ⟨S2x128x2x128, .f32⟩
  | .hbm, ⟨55, _⟩ => ⟨S2x128x2x128, .f32⟩
  | .hbm, ⟨56, _⟩ => ⟨S256x256, .f32⟩
  | .hbm, ⟨57, _⟩ => ⟨S256x256, .bf16⟩
  | .hbm, ⟨58, _⟩ => ⟨S3072x6144, .i8⟩
  | .hbm, ⟨59, _⟩ => ⟨S24x1x128, .f32⟩
  | .hbm, ⟨60, _⟩ => ⟨S3072x128, .f32⟩
  | .hbm, ⟨61, _⟩ => ⟨S3072x6144, .bf16⟩
  | .hbm, ⟨62, _⟩ => ⟨S3072x16384, .bf16⟩
  | .hbm, ⟨63, _⟩ => ⟨S3072x16384, .bf16⟩
  | .hbm, ⟨64, _⟩ => ⟨S3x1024x16384, .bf16⟩
  | .hbm, ⟨65, _⟩ => ⟨S3x1024x16384, .bf16⟩
  | .hbm, ⟨66, _⟩ => ⟨S3x1024x6144, .i8⟩
  | .hbm, ⟨67, _⟩ => ⟨S3x1024, .f32⟩
  | .local _ .vmem, ⟨0, _⟩ => ⟨S128x6144, .bf16⟩
  | .local _ .vmem, ⟨1, _⟩ => ⟨S128x6144, .bf16⟩
  | .local _ .vmem, ⟨2, _⟩ => ⟨S128x6144, .bf16⟩
  | .local _ .vmem, ⟨3, _⟩ => ⟨S128x6144, .bf16⟩
  | .local _ .vmem, ⟨4, _⟩ => ⟨S256x256, .bf16⟩
  | .local _ .vmem, ⟨5, _⟩ => ⟨S128x6144, .i8⟩
  | .local _ .vmem, ⟨6, _⟩ => ⟨S128x6144, .i8⟩
  | .local _ .vmem, ⟨7, _⟩ => ⟨S1x1x128, .f32⟩
  | .local _ .vmem, ⟨8, _⟩ => ⟨S1x1x128, .f32⟩
  | .local _ .vmem, ⟨9, _⟩ => ⟨S128x128, .f32⟩
  | .local _ .vmem, ⟨10, _⟩ => ⟨S128x128, .f32⟩
  | .local _ .vmem, ⟨11, _⟩ => ⟨S128x6144, .bf16⟩
  | .local _ .vmem, ⟨12, _⟩ => ⟨S128x6144, .bf16⟩
  | .local _ .vmem, ⟨13, _⟩ => ⟨S128x6144, .f32⟩
  | .local _ .vmem, ⟨14, _⟩ => ⟨S512x6144, .i8⟩
  | .local _ .vmem, ⟨15, _⟩ => ⟨S512x6144, .i8⟩
  | .local _ .vmem, ⟨16, _⟩ => ⟨S512x6144, .bf16⟩
  | .local _ .vmem, ⟨17, _⟩ => ⟨S512x6144, .bf16⟩
  | .local _ .vmem, ⟨18, _⟩ => ⟨S3072x1024, .i8⟩
  | .local _ .vmem, ⟨19, _⟩ => ⟨S3072x1024, .i8⟩
  | .local _ .vmem, ⟨20, _⟩ => ⟨S48x1024, .f32⟩
  | .local _ .vmem, ⟨21, _⟩ => ⟨S48x1024, .f32⟩
  | .local _ .vmem, ⟨22, _⟩ => ⟨S48x1024, .f32⟩
  | .local _ .vmem, ⟨23, _⟩ => ⟨S48x1024, .f32⟩
  | .local _ .vmem, ⟨24, _⟩ => ⟨S512x128, .f32⟩
  | .local _ .vmem, ⟨25, _⟩ => ⟨S512x128, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S6144x1024, .bf16⟩
  | .local _ .vmem, ⟨31, _⟩ => ⟨S512x6144, .bf16⟩
  | _, _ => ⟨S3x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v4 : Ref sig .tc := ⟨.hbm, 25, rfl⟩
abbrev main_call3_v0 : Ref sig .tc := ⟨.hbm, 26, rfl⟩
abbrev main_call3_v1 : Ref sig .tc := ⟨.hbm, 27, rfl⟩
abbrev main_call3_v2 : Ref sig .tc := ⟨.hbm, 28, rfl⟩
abbrev main_call3_v3 : Ref sig .tc := ⟨.hbm, 29, rfl⟩
abbrev main_call3_v4 : Ref sig .tc := ⟨.hbm, 30, rfl⟩
abbrev main_v5 : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_call4_v3 : Ref sig .tc := ⟨.hbm, 35, rfl⟩
abbrev main_call4_v4 : Ref sig .tc := ⟨.hbm, 36, rfl⟩
abbrev main_v6 : Ref sig .tc := ⟨.hbm, 37, rfl⟩
abbrev main_call5_v0 : Ref sig .tc := ⟨.hbm, 38, rfl⟩
abbrev main_call5_v1 : Ref sig .tc := ⟨.hbm, 39, rfl⟩
abbrev main_call5_v2 : Ref sig .tc := ⟨.hbm, 40, rfl⟩
abbrev main_call5_v3 : Ref sig .tc := ⟨.hbm, 41, rfl⟩
abbrev main_call5_v4 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_c : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_call6_v0 : Ref sig .tc := ⟨.hbm, 51, rfl⟩
abbrev main_call6_v1 : Ref sig .tc := ⟨.hbm, 52, rfl⟩
abbrev main_call6_v2 : Ref sig .tc := ⟨.hbm, 53, rfl⟩
abbrev main_call6_v3 : Ref sig .tc := ⟨.hbm, 54, rfl⟩
abbrev main_call6_v4 : Ref sig .tc := ⟨.hbm, 55, rfl⟩
abbrev main_v14 : Ref sig .tc := ⟨.hbm, 56, rfl⟩
abbrev main_v15 : Ref sig .tc := ⟨.hbm, 57, rfl⟩
abbrev main_v16_0 : Ref sig .tc := ⟨.hbm, 58, rfl⟩
abbrev main_v16_1 : Ref sig .tc := ⟨.hbm, 59, rfl⟩
abbrev main_v16_2 : Ref sig .tc := ⟨.hbm, 60, rfl⟩
abbrev main_v16_3 : Ref sig .tc := ⟨.hbm, 61, rfl⟩
abbrev main_v17_0 : Ref sig .tc := ⟨.hbm, 62, rfl⟩
abbrev main_v17_1 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc1_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x6144 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x6144 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x6144 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3072x1024 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S48x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S48x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S3x1024x6144 : Shape := ⟨3, ![3, 1024, 6144]⟩
abbrev S3072x16384 : Shape := ⟨2, ![3072, 16384]⟩
abbrev S48x16384 : Shape := ⟨2, ![48, 16384]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S_ : Shape := ⟨0, ![]⟩
abbrev S3x1024x48x128 : Shape := ⟨4, ![3, 1024, 48, 128]⟩
abbrev S3x1024 : Shape := ⟨2, ![3, 1024]⟩
abbrev S3x1024x1 : Shape := ⟨3, ![3, 1024, 1]⟩
abbrev S128x64 : Shape := ⟨2, ![128, 64]⟩
abbrev S3x1024x48x64 : Shape := ⟨4, ![3, 1024, 48, 64]⟩
abbrev S3x1024x3072 : Shape := ⟨3, ![3, 1024, 3072]⟩
abbrev S48x64x16384 : Shape := ⟨3, ![48, 64, 16384]⟩
abbrev S48x1x16384 : Shape := ⟨3, ![48, 1, 16384]⟩
abbrev S3x1024x16384 : Shape := ⟨3, ![3, 1024, 16384]⟩

abbrev nBuf : Space → Nat
  | .hbm => 168
  | .vmem => 0
  | .smem => 0
  | _ => 0

abbrev hbmTy0_0 (i : Nat) : BufTy := match i % 128 with
  | 0 => ⟨S3x1024x6144, .bf16⟩
  | 1 => ⟨S3x1024x6144, .bf16⟩
  | 2 => ⟨S3072x16384, .i8⟩
  | 3 => ⟨S48x16384, .f32⟩
  | 4 => ⟨S48x16384, .f32⟩
  | 5 => ⟨S2x2, .f32⟩
  | 6 => ⟨S2x1x2x1, .f32⟩
  | 7 => ⟨S1x2x1x2, .f32⟩
  | 8 => ⟨S2x2x2x2, .f32⟩
  | 9 => ⟨S2x2x2x2, .f32⟩
  | 10 => ⟨S2x2x2x2, .f32⟩
  | 11 => ⟨S4x4, .f32⟩
  | 12 => ⟨S4x1x4x1, .f32⟩
  | 13 => ⟨S1x2x1x2, .f32⟩
  | 14 => ⟨S4x2x4x2, .f32⟩
  | 15 => ⟨S4x2x4x2, .f32⟩
  | 16 => ⟨S4x2x4x2, .f32⟩
  | 17 => ⟨S8x8, .f32⟩
  | 18 => ⟨S8x1x8x1, .f32⟩
  | 19 => ⟨S1x2x1x2, .f32⟩
  | 20 => ⟨S8x2x8x2, .f32⟩
  | 21 => ⟨S8x2x8x2, .f32⟩
  | 22 => ⟨S8x2x8x2, .f32⟩
  | 23 => ⟨S16x16, .f32⟩
  | 24 => ⟨S16x1x16x1, .f32⟩
  | 25 => ⟨S1x2x1x2, .f32⟩
  | 26 => ⟨S16x2x16x2, .f32⟩
  | 27 => ⟨S16x2x16x2, .f32⟩
  | 28 => ⟨S16x2x16x2, .f32⟩
  | 29 => ⟨S32x32, .f32⟩
  | 30 => ⟨S32x1x32x1, .f32⟩
  | 31 => ⟨S1x2x1x2, .f32⟩
  | 32 => ⟨S32x2x32x2, .f32⟩
  | 33 => ⟨S32x2x32x2, .f32⟩
  | 34 => ⟨S32x2x32x2, .f32⟩
  | 35 => ⟨S64x64, .f32⟩
  | 36 => ⟨S64x1x64x1, .f32⟩
  | 37 => ⟨S1x2x1x2, .f32⟩
  | 38 => ⟨S64x2x64x2, .f32⟩
  | 39 => ⟨S64x2x64x2, .f32⟩
  | 40 => ⟨S64x2x64x2, .f32⟩
  | 41 => ⟨S128x128, .f32⟩
  | 42 => ⟨S_, .f32⟩
  | 43 => ⟨S128x128, .f32⟩
  | 44 => ⟨S128x128, .f32⟩
  | 45 => ⟨S3x1024x6144, .f32⟩
  | 46 => ⟨S3x1024x48x128, .f32⟩
  | 47 => ⟨S3x1024x48x128, .f32⟩
  | 48 => ⟨S3x1024x6144, .f32⟩
  | 49 => ⟨S3x1024x6144, .f32⟩
  | 50 => ⟨S_, .f32⟩
  | 51 => ⟨S3x1024, .f32⟩
  | 52 => ⟨S_, .f32⟩
  | 53 => ⟨S3x1024, .f32⟩
  | 54 => ⟨S3x1024, .i1⟩
  | 55 => ⟨S_, .f32⟩
  | 56 => ⟨S3x1024, .f32⟩
  | 57 => ⟨S3x1024, .f32⟩
  | 58 => ⟨S_, .f32⟩
  | 59 => ⟨S_, .f32⟩
  | 60 => ⟨S3x1024, .f32⟩
  | 61 => ⟨S3x1024, .f32⟩
  | 62 => ⟨S3x1024x1, .f32⟩
  | 63 => ⟨S3x1024x6144, .f32⟩
  | 64 => ⟨S3x1024x6144, .f32⟩
  | 65 => ⟨S3x1024x6144, .f32⟩
  | 66 => ⟨S_, .f32⟩
  | 67 => ⟨S_, .f32⟩
  | 68 => ⟨S_, .f32⟩
  | 69 => ⟨S3x1024x6144, .f32⟩
  | 70 => ⟨S3x1024x6144, .f32⟩
  | 71 => ⟨S_, .f32⟩
  | 72 => ⟨S3x1024x6144, .f32⟩
  | 73 => ⟨S3x1024x6144, .f32⟩
  | 74 => ⟨S3x1024x6144, .i32⟩
  | 75 => ⟨S3x1024x6144, .i8⟩
  | 76 => ⟨S3x1024x6144, .f32⟩
  | 77 => ⟨S3x1024x48x128, .f32⟩
  | 78 => ⟨S128x64, .f32⟩
  | 79 => ⟨S3x1024x48x64, .f32⟩
  | 80 => ⟨S128x64, .f32⟩
  | 81 => ⟨S3x1024x48x64, .f32⟩
  | 82 => ⟨S3x1024x3072, .f32⟩
  | 83 => ⟨S3x1024x3072, .f32⟩
  | 84 => ⟨S3x1024x1, .f32⟩
  | 85 => ⟨S3x1024x3072, .f32⟩
  | 86 => ⟨S3x1024x3072, .f32⟩
  | 87 => ⟨S3x1024x3072, .f32⟩
  | 88 => ⟨S_, .f32⟩
  | 89 => ⟨S_, .f32⟩
  | 90 => ⟨S_, .f32⟩
  | 91 => ⟨S3x1024x3072, .f32⟩
  | 92 => ⟨S3x1024x3072, .f32⟩
  | 93 => ⟨S_, .f32⟩
  | 94 => ⟨S3x1024x3072, .f32⟩
  | 95 => ⟨S3x1024x3072, .f32⟩
  | 96 => ⟨S3x1024x3072, .i32⟩
  | 97 => ⟨S3x1024x3072, .i8⟩
  | 98 => ⟨S3x1024x3072, .i32⟩
  | 99 => ⟨S3x1024x3072, .f32⟩
  | 100 => ⟨S3x1024x3072, .bf16⟩
  | 101 => ⟨S3x1024x3072, .f32⟩
  | 102 => ⟨S3x1024x3072, .f32⟩
  | 103 => ⟨S3x1024x3072, .f32⟩
  | 104 => ⟨S_, .f32⟩
  | 105 => ⟨S_, .f32⟩
  | 106 => ⟨S_, .f32⟩
  | 107 => ⟨S3x1024x3072, .f32⟩
  | 108 => ⟨S3x1024x3072, .f32⟩
  | 109 => ⟨S_, .f32⟩
  | 110 => ⟨S3x1024x3072, .f32⟩
  | 111 => ⟨S3x1024x3072, .f32⟩
  | 112 => ⟨S3x1024x3072, .i32⟩
  | 113 => ⟨S3x1024x3072, .i8⟩
  | 114 => ⟨S3x1024x3072, .i32⟩
  | 115 => ⟨S3x1024x3072, .f32⟩
  | 116 => ⟨S3x1024x3072, .bf16⟩
  | 117 => ⟨S3x1024x6144, .f32⟩
  | 118 => ⟨S3x1024x48x128, .f32⟩
  | 119 => ⟨S128x64, .f32⟩
  | 120 => ⟨S3x1024x48x64, .f32⟩
  | 121 => ⟨S128x64, .f32⟩
  | 122 => ⟨S3x1024x48x64, .f32⟩
  | 123 => ⟨S3x1024x3072, .f32⟩
  | 124 => ⟨S3x1024x3072, .f32⟩
  | 125 => ⟨S48x16384, .bf16⟩
  | 126 => ⟨S48x16384, .bf16⟩
  | 127 => ⟨S3072x16384, .i32⟩
  | _ => ⟨S3x1024x6144, .bf16⟩

abbrev hbmTy0_1 (i : Nat) : BufTy := match i % 128 with
  | 0 => ⟨S_, .i32⟩
  | 1 => ⟨S3072x16384, .i32⟩
  | 2 => ⟨S3072x16384, .i32⟩
  | 3 => ⟨S3072x16384, .f32⟩
  | 4 => ⟨S3072x16384, .bf16⟩
  | 5 => ⟨S48x64x16384, .bf16⟩
  | 6 => ⟨S48x1x16384, .bf16⟩
  | 7 => ⟨S48x64x16384, .bf16⟩
  | 8 => ⟨S48x64x16384, .bf16⟩
  | 9 => ⟨S48x1x16384, .bf16⟩
  | 10 => ⟨S48x64x16384, .bf16⟩
  | 11 => ⟨S48x64x16384, .bf16⟩
  | 12 => ⟨S3072x16384, .bf16⟩
  | 13 => ⟨S3072x16384, .i32⟩
  | 14 => ⟨S_, .i32⟩
  | 15 => ⟨S3072x16384, .i32⟩
  | 16 => ⟨S3072x16384, .i32⟩
  | 17 => ⟨S3072x16384, .f32⟩
  | 18 => ⟨S3072x16384, .bf16⟩
  | 19 => ⟨S48x64x16384, .bf16⟩
  | 20 => ⟨S48x1x16384, .bf16⟩
  | 21 => ⟨S48x64x16384, .bf16⟩
  | 22 => ⟨S48x64x16384, .bf16⟩
  | 23 => ⟨S48x1x16384, .bf16⟩
  | 24 => ⟨S48x64x16384, .bf16⟩
  | 25 => ⟨S48x64x16384, .bf16⟩
  | 26 => ⟨S3072x16384, .bf16⟩
  | 27 => ⟨S3x1024x16384, .f32⟩
  | 28 => ⟨S3x1024x16384, .f32⟩
  | 29 => ⟨S3x1024x16384, .f32⟩
  | 30 => ⟨S3x1024x1, .f32⟩
  | 31 => ⟨S3x1024x16384, .f32⟩
  | 32 => ⟨S3x1024x16384, .f32⟩
  | 33 => ⟨S3x1024x16384, .bf16⟩
  | 34 => ⟨S3x1024x3072, .bf16⟩
  | 35 => ⟨S3x1024x16384, .f32⟩
  | 36 => ⟨S3x1024x3072, .bf16⟩
  | 37 => ⟨S3x1024x16384, .f32⟩
  | 38 => ⟨S3x1024x16384, .f32⟩
  | 39 => ⟨S3x1024x16384, .bf16⟩
  | _ => ⟨S3x1024x6144, .bf16⟩

abbrev hbmTy (i : Nat) : BufTy := match i / 128 with
  | 0 => hbmTy0_0 i
  | 1 => hbmTy0_1 i
  | _ => ⟨S3x1024x6144, .bf16⟩

abbrev bufTy : (tb : Table) → Fin (tcTables nBuf tb) → BufTy
  | .hbm, ⟨i, _⟩ => hbmTy i
  | _, _ => ⟨S3x1024x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v1 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v2 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_v3 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_v4 : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_call5_v3 : Ref sig .tc := ⟨.hbm, 39, rfl⟩
abbrev main_call5_v4 : Ref sig .tc := ⟨.hbm, 40, rfl⟩
abbrev main_v5 : Ref sig .tc := ⟨.hbm, 41, rfl⟩
abbrev main_cst_0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_1 : Ref sig .tc := ⟨.hbm, 50, rfl⟩
abbrev main_v13 : Ref sig .tc := ⟨.hbm, 51, rfl⟩
abbrev main_cst_2 : Ref sig .tc := ⟨.hbm, 52, rfl⟩
abbrev main_v14 : Ref sig .tc := ⟨.hbm, 53, rfl⟩
abbrev main_v15 : Ref sig .tc := ⟨.hbm, 54, rfl⟩
abbrev main_cst_3 : Ref sig .tc := ⟨.hbm, 55, rfl⟩
abbrev main_v16 : Ref sig .tc := ⟨.hbm, 56, rfl⟩
abbrev main_v17 : Ref sig .tc := ⟨.hbm, 57, rfl⟩
abbrev main_cst_4 : Ref sig .tc := ⟨.hbm, 58, rfl⟩
abbrev main_call6_v0 : Ref sig .tc := ⟨.hbm, 59, rfl⟩
abbrev main_call6_v1 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_5 : Ref sig .tc := ⟨.hbm, 66, rfl⟩
abbrev main_cst_6 : Ref sig .tc := ⟨.hbm, 67, rfl⟩
abbrev main_call8_v0 : Ref sig .tc := ⟨.hbm, 68, rfl⟩
abbrev main_call8_v1 : Ref sig .tc := ⟨.hbm, 69, rfl⟩
abbrev main_call8_v2 : Ref sig .tc := ⟨.hbm, 70, rfl⟩
abbrev main_call8_v3 : Ref sig .tc := ⟨.hbm, 71, rfl⟩
abbrev main_call8_v4 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_7 : Ref sig .tc := ⟨.hbm, 88, rfl⟩
abbrev main_cst_8 : Ref sig .tc := ⟨.hbm, 89, rfl⟩
abbrev main_call10_v0 : Ref sig .tc := ⟨.hbm, 90, rfl⟩
abbrev main_call10_v1 : Ref sig .tc := ⟨.hbm, 91, rfl⟩
abbrev main_call10_v2 : Ref sig .tc := ⟨.hbm, 92, rfl⟩
abbrev main_call10_v3 : Ref sig .tc := ⟨.hbm, 93, rfl⟩
abbrev main_call10_v4 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_cst_9 : Ref sig .tc := ⟨.hbm, 104, rfl⟩
abbrev main_cst_10 : Ref sig .tc := ⟨.hbm, 105, rfl⟩
abbrev main_call12_v0 : Ref sig .tc := ⟨.hbm, 106, rfl⟩
abbrev main_call12_v1 : Ref sig .tc := ⟨.hbm, 107, rfl⟩
abbrev main_call12_v2 : Ref sig .tc := ⟨.hbm, 108, rfl⟩
abbrev main_call12_v3 : Ref sig .tc := ⟨.hbm, 109, rfl⟩
abbrev main_call12_v4 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_c : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_c_11 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩

abbrev nD : Nat := 1
abbrev τ : Topo := Topo.v7x

variable {F : FTy → Type} [FloatOps F]
-- ==== Proof.KernelIdeal.Rotate.lean ====
/- The first pallas_call (rotate and quantise): what its body does at a grid point, and its proof data,
   at whatever the arrays hold when it is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rotate_quantise` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S128x6144 .i8 := (Memref.whole cc0_stg3_0 : Memref sig .tc .vmem S128x6144 .i8).view
/-- One staging buffer of output window 4, through which its contents are stated (`View.read_writes_of_cover`: the
    choice does not matter). -/
abbrev VO0_4 : View sig .tc .vmem S1x1x128 .f32 := (Memref.whole cc0_stg4_0 : Memref sig .tc .vmem S1x1x128 .f32).view
/-- One staging buffer of output window 5, through which its contents are stated (`View.read_writes_of_cover`: the
    choice does not matter). -/
abbrev VO0_5 : View sig .tc .vmem S128x128 .f32 := (Memref.whole cc0_stg5_0 : Memref sig .tc .vmem S128x128 .f32).view
/-- One staging buffer of output window 6, through which its contents are stated (`View.read_writes_of_cover`: the
    choice does not matter). -/
abbrev VO0_6 : View sig .tc .vmem S128x6144 .bf16 := (Memref.whole cc0_stg6_0 : Memref sig .tc .vmem S128x6144 .bf16).view
/-- Each window's current staging memref at point `t`, spelled as the pipeline passes it (`bodyAt0`), and its wholeness. -/
abbrev ms0_0 (t : Fin cfg0.N) : Memref sig .tc .vmem S128x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x6144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x6144 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x6144 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x6144 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1540000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) :
    Σ' (L3 : List (View.Piece (Elt F) S128x6144 .i8)), Σ' (L4 : List (View.Piece (Elt F) S1x1x128 .f32)), Σ' (L5 : List (View.Piece (Elt F) S128x128 .f32)), Σ' (L6 : List (View.Piece (Elt F) S128x6144 .bf16)), { LT0 : List (View.Piece (Elt F) S128x6144 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0)) -∗ K ⟨⟩))
          ⊢ wp frame (wpE (defs₀ (F := F)) Variants.none c none) E (cc0_rotate_quantise i arg1 harg1 arg2 harg2 arg3 harg3 arg4 harg4 arg5 harg5 arg6 harg6 arg7 harg7 arg8 harg8) K } := by
  refine ⟨?_, ?_, ?_, ?_, ?_, fun E K => ?run⟩
  case run =>
    simp only [cc0_rotate_quantise_eq_skeleton]; unfold cc0_rotate_quantise_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact HS0

/-- The run's pieces for output 3 tile its block (48 stores of `S128x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) (y : S128x6144.Idx) :
    ∃ pc ∈ (kernelRun0_A c i arg1 harg1 arg2 harg2 arg3 harg3 arg4 harg4 arg5 harg5 arg6 harg6 arg7 harg7 arg8 harg8 x0 x1 x2).1, y ∈ pc.1.set :=
  View.cover_of_tiledL (kernelRun0_A c i arg1 harg1 arg2 harg2 arg3 harg3 arg4 harg4 arg5 harg5 arg6 harg6 arg7 harg7 arg8 harg8 x0 x1 x2).1 S128x128.size (by sl_kernel_rfl) y

/-- What the run leaves in output 3's staging buffer: its pieces read back over junk. -/
def out0_A_3 (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) : Vec F S128x6144 .i8 :=
  VO0_3.read (Elt F) (VO0_3.writes (Elt F) VO0_3.junk (kernelRun0_A c i arg1 harg1 arg2 harg2 arg3 harg3 arg4 harg4 arg5 harg5 arg6 harg6 arg7 harg7 arg8 harg8 x0 x1 x2).1)

/-- The run's pieces for output 4 tile its block (1 store of `S1x1x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) (y : S1x1x128.Idx) :
    ∃ pc ∈ (kernelRun0_A c i arg1 harg1 arg2 harg2 arg3 harg3 arg4 harg4 arg5 harg5 arg6 harg6 arg7 harg7 arg8 harg8 x0 x1 x2).2.1, y ∈ pc.1.set :=
  View.cover_of_tiledL (kernelRun0_A c i arg1 harg1 arg2 harg2 arg3 harg3 arg4 harg4 arg5 harg5 arg6 harg6 arg7 harg7 arg8 harg8 x0 x1 x2).2.1 S1x1x128.size (by sl_kernel_rfl) y

/-- What the run leaves in output 4's staging buffer: its pieces read back over junk. -/
def out0_A_4 (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) : Vec F S1x1x128 .f32 :=
  VO0_4.read (Elt F) (VO0_4.writes (Elt F) VO0_4.junk (kernelRun0_A c i arg1 harg1 arg2 harg2 arg3 harg3 arg4 harg4 arg5 harg5 arg6 harg6 arg7 harg7 arg8 harg8 x0 x1 x2).2.1)

/-- The run's pieces for output 5 tile its block (1 store of `S128x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) (y : S128x128.Idx) :
    ∃ pc ∈ (kernelRun0_A c i arg1 harg1 arg2 harg2 arg3 harg3 arg4 harg4 arg5 harg5 arg6 harg6 arg7 harg7 arg8 harg8 x0 x1 x2).2.2.1, y ∈ pc.1.set :=
  View.cover_of_tiledL (kernelRun0_A c i arg1 harg1 arg2 harg2 arg3 harg3 arg4 harg4 arg5 harg5 arg6 harg6 arg7 harg7 arg8 harg8 x0 x1 x2).2.2.1 S128x128.size (by sl_kernel_rfl) y

/-- What the run leaves in output 5's staging buffer: its pieces read back over junk. -/
def out0_A_5 (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) : Vec F S128x128 .f32 :=
  VO0_5.read (Elt F) (VO0_5.writes (Elt F) VO0_5.junk (kernelRun0_A c i arg1 harg1 arg2 harg2 arg3 harg3 arg4 harg4 arg5 harg5 arg6 harg6 arg7 harg7 arg8 harg8 x0 x1 x2).2.2.1)

/-- The run's pieces for output 6 tile its block (24 stores of `S128x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) (y : S128x6144.Idx) :
    ∃ pc ∈ (kernelRun0_A c i arg1 harg1 arg2 harg2 arg3 harg3 arg4 harg4 arg5 harg5 arg6 harg6 arg7 harg7 arg8 harg8 x0 x1 x2).2.2.2.1, y ∈ pc.1.set :=
  View.cover_of_tiledL (kernelRun0_A c i arg1 harg1 arg2 harg2 arg3 harg3 arg4 harg4 arg5 harg5 arg6 harg6 arg7 harg7 arg8 harg8 x0 x1 x2).2.2.2.1 S128x256.size (by sl_kernel_rfl) y

/-- What the run leaves in output 6's staging buffer: its pieces read back over junk. -/
def out0_A_6 (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
    (x0 : Vec F S128x6144 .bf16) (x1 : Vec F S128x6144 .bf16) (x2 : Vec F S256x256 .bf16) : Vec F S128x6144 .bf16 :=
  VO0_6.read (Elt F) (VO0_6.writes (Elt F) VO0_6.junk (kernelRun0_A c i arg1 harg1 arg2 harg2 arg3 harg3 arg4 harg4 arg5 harg5 arg6 harg6 arg7 harg7 arg8 harg8 x0 x1 x2).2.2.2.1)

/-! ## What the outputs hold after each point -/

/-- What the outputs' staging buffers hold after the body at point `t` (as a tuple, in window order): the run's contents at
    the point's memrefs and input blocks. -/
def outsAt0 (c : Dev nD) (t : Fin cfg0.N) : Vec F S128x6144 .i8 × Vec F S1x1x128 .f32 × Vec F S128x128 .f32 × Vec F S128x6144 .bf16 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2.1
    | ⟨5, _⟩ => (outsAt0 V c t).2.2.1
    | ⟨6, _⟩ => (outsAt0 V c t).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2.1 := by dsimp only [dat0]
theorem after0_5 (c : Dev nD) (t : Fin cfg0.N) : (dat0 V c).after 5 t = (outsAt0 V c t).2.2.1 := by dsimp only [dat0]
theorem after0_6 (c : Dev nD) (t : Fin cfg0.N) : (dat0 V c).after 6 t = (outsAt0 V c t).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  rw [show (dat0 V c).Φ t.castSucc = Pipeline.ΦA spec0 c from rfl, PhiA0_eq]
  unfold outsAt0
  unfold out0_A_3 out0_A_4 out0_A_5 out0_A_6; (try dsimp only)
  iintro ⟨⟨⟨HS0, HR1, HR2, HR3, HR4, HR5, HR6, HR7, HR8, HR9, HR10, HR11, HR12, HR13, HR14, HR15, HR16, HR17, HR18⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk0 V c 0 t) (iblk0 V c 1 t) (iblk0 V c 2 t)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, H2, ⟨%e3, H3⟩, ⟨%e4, H4⟩, ⟨%e5, H5⟩, ⟨%e6, H6⟩, ⟨%fT0, HS0⟩⟩
  isplitl [HS0 HR1 HR2 HR3 HR4 HR5 HR6 HR7 HR8 HR9 HR10 HR11 HR12 HR13 HR14 HR15 HR16 HR17 HR18 Hg]
  · isplitl [HS0 HR1 HR2 HR3 HR4 HR5 HR6 HR7 HR8 HR9 HR10 HR11 HR12 HR13 HR14 HR15 HR16 HR17 HR18]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      iexact HR18
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.MatmulRuns.lean ====
/- The second pallas_call (decode and two matrix products): its windows' blocks, its branch condition over the
   grid points, and its staging and scratch buffers. -/
module

public import proofs.«01_k».proof.Proof.KernelIdeal.Rotate

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at, which
-- the run instantiates per region
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 6) — by arithmetic of the point. -/
theorem hcond1_0 : ∀ t : Fin cfg1.N, cond1_0 (grid1.coords t) ↔ t.val % 6 = 0 :=
  (fun t => by
    have ht : t.val < 96 := Nat.lt_of_lt_of_eq t.isLt N_1
    have e0 : (grid1.coords t 0).val = t.val / 6 % 16 := Pipeline.Grid.coords_val t 0 (by decide) rfl
    have e1 : (grid1.coords t 1).val = t.val / 1 % 6 := Pipeline.Grid.coords_val t 1 (by decide) rfl
    simp only [cond1_0, e0, e1]
    word_cmp
   : ∀ t : Fin grid1.N, cond1_0 (grid1.coords t) ↔ t.val % 6 = 0)

/-! ## The kernel body on any staging memrefs: a subtype the run finds -/

/-- One staging buffer of output window 6, through which its contents are stated (`View.read_writes_of_cover`: the
    choice does not matter). -/
abbrev VO1_6 : View sig .tc .vmem S512x1024 .bf16 := (Memref.whole cc1_stg6_0 : Memref sig .tc .vmem S512x1024 .bf16).view
/-- One staging buffer of output window 7, through which its contents are stated (`View.read_writes_of_cover`: the
    choice does not matter). -/
abbrev VO1_7 : View sig .tc .vmem S512x1024 .bf16 := (Memref.whole cc1_stg7_0 : Memref sig .tc .vmem S512x1024 .bf16).view
/-- Each window's current staging memref at point `t`, spelled as the pipeline passes it (`bodyAt1`), and its wholeness. -/
abbrev ms1_0 (t : Fin cfg1.N) : Memref sig .tc .vmem S512x6144 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x6144 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3072x1024 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S48x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S48x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1024 .bf16 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S6144x1024 .bf16 := Memref.whole cc1_scratch0
abbrev scM1_1 : Memref sig .tc .vmem S512x6144 .bf16 := Memref.whole cc1_scratch1
/-- The scratch `arg10` the kernel carries between points, as a view: what it holds is stated through it. -/
abbrev VS1_0 : View sig .tc .vmem S6144x1024 .bf16 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Run

end
-- ==== Proof.KernelIdeal.MatmulRunA.lean ====
/- The run of the second pallas_call's body at the points where it decodes the weights first. -/
module

public import proofs.«01_k».proof.Proof.KernelIdeal.MatmulRuns

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1444000 in
/-- What the body's stores leave in each output's staging memref, as pieces (last first) IN CASE A (`scf.if` 0 taken: points 0, 6, … 90: 16 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) :
    Σ' (L6 : List (View.Piece (Elt F) S512x1024 .bf16)), Σ' (L7 : List (View.Piece (Elt F) S512x1024 .bf16)), Σ' (LS0 : List (View.Piece (Elt F) S6144x1024 .bf16)), { LT1 : List (View.Piece (Elt F) S512x6144 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1)) -∗ K ⟨⟩))
          ⊢ wp frame (wpE (defs₀ (F := F)) Variants.none c none) E (cc1_shared_w4_matmul i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_shared_w4_matmul_eq_skeleton]; unfold cc1_shared_w4_matmul_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Run

end
-- ==== Proof.KernelIdeal.MatmulRunB.lean ====
/- The run of the second pallas_call's body at the points where it finds the weights already decoded. -/
module

public import proofs.«01_k».proof.Proof.KernelIdeal.MatmulRunA

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 95: 80 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : ¬cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (xs0 : Vec F S6144x1024 .bf16) :
    Σ' (L6 : List (View.Piece (Elt F) S512x1024 .bf16)), Σ' (L7 : List (View.Piece (Elt F) S512x1024 .bf16)), Σ' (LS0 : List (View.Piece (Elt F) S6144x1024 .bf16)), { LT1 : List (View.Piece (Elt F) S512x6144 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1)) -∗ K ⟨⟩))
          ⊢ wp frame (wpE (defs₀ (F := F)) Variants.none c none) E (cc1_shared_w4_matmul i arg2 harg2 arg3 harg3 arg4 harg4 arg5 harg5 arg6 harg6 arg7 harg7 arg8 harg8 arg9 harg9 arg10 harg10 arg11 harg11) K } := by
  refine ⟨?_, ?_, [], ?_, fun E K => ?run⟩
  case run =>
    simp only [cc1_shared_w4_matmul_eq_skeleton]; unfold cc1_shared_w4_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    iexists _; iexact HS1

end Cert.KernelIdeal.Run

end
-- ==== Proof.KernelIdeal.Matmul.lean ====
/- The second pallas_call's body at every grid point: what it leaves in its outputs and in the decoded weights it keeps
   from point to point, and its proof data, at whatever the arrays hold when it is entered. -/
module

public import proofs.«01_k».proof.Proof.KernelIdeal.MatmulRunB

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at, which
-- the run instantiates per region
variable (V : (c : Dev nD) → (b : Ref sig .tc) → Buf (Elt F) ((c : Thread nD τ).loc b))

/-- Case A's pieces for output 6 tile its block (1 store of `S512x1024`, checked by the kernel's evaluation: Lib/Ring.lean `Piece.tiledL`, linear in the pieces, through a loop's `@[irreducible]` trip theorem too), so they cover it. -/
theorem cover1_A_6 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (y : S512x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5).1 S512x1024.size (by sl_kernel_rfl) y

/-- What case A leaves in output 6's staging buffer: its pieces read back over junk. -/
def out1_A_6 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) : Vec F S512x1024 .bf16 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 x0 x1 x2 x3 x4 x5).1)

/-- Case A's pieces for output 7 tile its block (1 store of `S512x1024`, checked by the kernel's evaluation: Lib/Ring.lean `Piece.tiledL`, linear in the pieces, through a loop's `@[irreducible]` trip theorem too), so they cover it. -/
theorem cover1_A_7 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (y : S512x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5).2.1 S512x1024.size (by sl_kernel_rfl) y

/-- What case A leaves in output 7's staging buffer: its pieces read back over junk. -/
def out1_A_7 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) : Vec F S512x1024 .bf16 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 x4 x5).2.1)

/-- Case A's pieces for scratch `arg10`, which the kernel carries between points, cover it: 48 pieces of `S128x1024` tiling it (Lib/Ring.lean `Piece.tiledL`). -/
theorem scover1_A_0 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (y : S6144x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5).2.2.1 S128x1024.size (by sl_kernel_rfl) y

/-- What case A leaves in scratch `arg10`: its pieces read back over junk. -/
def sout1_A_0 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) : Vec F S6144x1024 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5).2.2.1)

/-- Case B's pieces for output 6 tile its block (1 store of `S512x1024`, checked by the kernel's evaluation: Lib/Ring.lean `Piece.tiledL`, linear in the pieces, through a loop's `@[irreducible]` trip theorem too), so they cover it. -/
theorem cover1_B_6 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : ¬cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (xs0 : Vec F S6144x1024 .bf16) (y : S512x1024.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).1 S512x1024.size (by sl_kernel_rfl) y

/-- What case B leaves in output 6's staging buffer: its pieces read back over junk. -/
def out1_B_6 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : ¬cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (xs0 : Vec F S6144x1024 .bf16) : Vec F S512x1024 .bf16 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 x0 x1 x2 x3 x4 x5 xs0).1)

/-- Case B's pieces for output 7 tile its block (1 store of `S512x1024`, checked by the kernel's evaluation: Lib/Ring.lean `Piece.tiledL`, linear in the pieces, through a loop's `@[irreducible]` trip theorem too), so they cover it. -/
theorem cover1_B_7 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : ¬cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (xs0 : Vec F S6144x1024 .bf16) (y : S512x1024.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).2.1 S512x1024.size (by sl_kernel_rfl) y

/-- What case B leaves in output 7's staging buffer: its pieces read back over junk. -/
def out1_B_7 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : ¬cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (xs0 : Vec F S6144x1024 .bf16) : Vec F S512x1024 .bf16 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 x4 x5 xs0).2.1)

/-- Case B stores nothing into scratch `arg10`: it holds what the point before left. -/
def sout1_B_0 (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole) (hc0 : ¬cond1_0 i)
    (x0 : Vec F S512x6144 .i8) (x1 : Vec F S512x6144 .bf16) (x2 : Vec F S3072x1024 .i8) (x3 : Vec F S48x1024 .f32) (x4 : Vec F S48x1024 .f32) (x5 : Vec F S512x128 .f32) (xs0 : Vec F S6144x1024 .bf16) : Vec F S6144x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x1024 .bf16 × Vec F S512x1024 .bf16 × Vec F S6144x1024 .bf16
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 6 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

/-- `outsAt1` at a point of case A: that case's contents. -/
theorem outsAt1_A (c : Dev nD) (t : Fin cfg1.N) (h0 : t.val % 6 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 6 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2) ∗ (∃ d, owns (c : Thread nD τ) scM1_1 fullShare d)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2) ∗ (∃ d, owns (c : Thread nD τ) scM1_1 fullShare d)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2.2) ∗ (∃ d, owns (c : Thread nD τ) scM1_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6, after1_7]
  rw [show (dat1 V c).Φ t.succ = PhiS1 V c (t.val + 1) t.isLt from rfl, PhiS1_succ]
  have hN : t.val < 96 := lt_of_lt_of_eq t.isLt (show cfg1.N = 96 from N_1)
  by_cases h0 : t.val % 6 = 0
  · by_cases hz : t.val = 0
    · rw [PhiS1_castSucc V c t, PhiS1_zero V c _ _ hz, PhiA1_eq]
      rw [outsAt1_A V c t h0]
      unfold out1_A_6 out1_A_7 sout1_A_0; (try dsimp only)
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%fT1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
    · rw [PhiS1_castSucc V c t, PhiS1_pos V c _ _ hz]
      rw [outsAt1_A V c t h0]
      unfold out1_A_6 out1_A_7 sout1_A_0; (try dsimp only)
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      isplitl [HS1]; · iexact HS1
      iintro ⟨H0, H1, H2, H3, H4, H5, ⟨%e6, H6⟩, ⟨%e7, H7⟩, ⟨%es0, HS0⟩, ⟨%fT1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
  · by_cases hz : t.val = 0
    · exfalso; have hN : t.val < 96 := lt_of_lt_of_eq t.isLt (show cfg1.N = 96 from N_1); omega
    · rw [PhiS1_castSucc V c t, PhiS1_pos V c _ _ hz]
      rw [outsAt1_B V c t h0]
      unfold out1_B_6 out1_B_7 sout1_B_0; (try dsimp only)
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, HS0, ⟨%fT1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HS0, HS1⟩, Hg⟩
  isplitl [HR0 HR1 HR2 HR3 HR4 HR5 HR6 HR7 HR8 HR9 HR10 HR11 HR12 HR13 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]
    · iexists _; iexact HS0
    iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Cert.KernelIdeal.Run

end
-- ==== Proof.KernelIdeal.Run.lean ====
/- The whole program's run: the buffers' contents at every boundary between the host's stretches and the two
   pallas_calls, and what every final state holds. -/
module

public import proofs.«01_k».proof.Proof.KernelIdeal.Matmul

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_v3, main_call0_v4, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_call1_v0, main_call1_v1, main_call1_v2, main_call1_v3, main_call1_v4, main_v3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call2_v0, main_call2_v1, main_call2_v2, main_call2_v3, main_call2_v4, main_v4]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_call3_v0, main_call3_v1, main_call3_v2, main_call3_v3, main_call3_v4, main_v5]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call4_v0, main_call4_v1, main_call4_v2, main_call4_v3, main_call4_v4, main_v6]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_call5_v0, main_call5_v1, main_call5_v2, main_call5_v3, main_call5_v4, main_v7]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_v8, main_v9, main_c, main_v10, main_v11, main_v12, main_v13]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_call6_v0, main_call6_v1, main_call6_v2, main_call6_v3, main_call6_v4, main_v14]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_v15]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v18, main_v19, main_v20, main_v21]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9` (region 0's entry). -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- The same read at the TensorCore's references (what region 0's proof data take). -/
abbrev V10 : (c : Dev nD) → (b : Ref sig .tc) → Buf (Elt F) ((c : Thread nD τ).loc b) := fun c b => W10 m ρ c b
/-- At region 0's exit: its arrays at what the pipeline leaves (the inputs as entered, each output's write-backs
    folded: `Dat.arrAt … N`), every other buffer as entered (Lib/Pipeline/FrameSuffix.lean `withArrays`) (region 1's entry). -/
def W11 (c : Dev nD) : Valuation τ sig (Elt F) :=
  Pipeline.withArrays spec0 c (W10 m ρ c) fun w => (dat0 (V10 m ρ) c).arrAt w cfg0.N
theorem W11_arr (c : Dev nD) (w : Fin cfg0.W) :
    W11 m ρ c (Proc.devRef .tc (Pipeline.arrRef spec0 w)) = (dat0 (V10 m ρ) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m ρ c (Proc.devRef .tc b) = W10 m ρ c (Proc.devRef .tc b) := by
  unfold W11; exact Pipeline.withArrays_of_ne spec0 c _ _ b hb
/-- A reference that is none of region 0's OUTPUT arrays keeps its entry contents across it: an input window's
    array is never written back (`Dat.arrAt_in`, `A_eq0`); any other buffer is left as is. -/
theorem W11_of (c : Dev nD) (r : Ref sig .tc) (h : ∀ w : Fin cfg0.W, Pipeline.arrRef spec0 w = r → (cfg0.win w).isOut = false) :
    W11 m ρ c (Proc.devRef .tc r) = W10 m ρ c (Proc.devRef .tc r) := by
  by_cases hw : ∃ w : Fin cfg0.W, Pipeline.arrRef spec0 w = r
  · obtain ⟨w, rfl⟩ := hw
    exact (W11_arr m ρ c w).trans (((dat0 (V10 m ρ) c).arrAt_in w (h w rfl) _).trans (A_eq0 (V10 m ρ) c w))
  · exact W11_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn0 a ha)).trans (W10_args m ρ c a ha)
/-- The same read at the TensorCore's references (region 0's exit contents). -/
abbrev V11 : (c : Dev nD) → (b : Ref sig .tc) → Buf (Elt F) ((c : Thread nD τ).loc b) := fun c b => W11 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V10 m ρ) c).arrAt w cfg0.N = V11 m ρ c (Pipeline.arrRef spec0 w) :=
  (W11_arr m ρ c w).symm
theorem hrest0 (c : Dev nD) : ∀ b, b ∉ Finset.univ.image (Pipeline.arrRef spec0) → V11 m ρ c b = V10 m ρ c b :=
  fun b hb => W11_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- A reference that is none of region 1's OUTPUT arrays keeps its entry contents across it: an input window's
    array is never written back (`Dat.arrAt_in`, `A_eq1`); any other buffer is left as is. -/
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (V11 m ρ) c).arrAt_in w (h w rfl) _).trans (A_eq1 (V11 m ρ) c w))
  · exact W12_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn1 a ha)).trans (W11_args m ρ c a ha)
/-- The same read at the TensorCore's references (region 1's exit contents). -/
abbrev V12 : (c : Dev nD) → (b : Ref sig .tc) → Buf (Elt F) ((c : Thread nD τ).loc b) := fun c b => W12 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After `hostOps2`. -/
abbrev W13 : Dev nD → Valuation τ sig (Elt F) := fun c => StableHlo.after hostOps2 (W12 m ρ c)
/-- A reference `hostOps2` does not write keeps its contents across it. -/
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h
theorem W13_args (c : Dev nD) : ∀ a ∈ argRefs, W13 m ρ c (Proc.devRef .tc a) = m ((c : Thread nD τ).loc a) :=
  fun a ha => (W13_of m ρ c a (hostOps2_args a ha)).trans (W12_args m ρ c a ha)

/-! ### The arguments end as launched: no host stretch writes one and no region may change one (a region reads it
    through an input window or bypasses it) -/

theorem W13_main_arg0 (c : Dev nD) : W13 m ρ c (Proc.devRef .tc main_arg0) = m ((c : Thread nD τ).loc main_arg0) :=
  W13_args m ρ c main_arg0 (by decide)
theorem W13_main_arg1 (c : Dev nD) : W13 m ρ c (Proc.devRef .tc main_arg1) = m ((c : Thread nD τ).loc main_arg1) :=
  W13_args m ρ c main_arg1 (by decide)
theorem W13_main_arg2 (c : Dev nD) : W13 m ρ c (Proc.devRef .tc main_arg2) = m ((c : Thread nD τ).loc main_arg2) :=
  W13_args m ρ c main_arg2 (by decide)
theorem W13_main_arg3 (c : Dev nD) : W13 m ρ c (Proc.devRef .tc main_arg3) = m ((c : Thread nD τ).loc main_arg3) :=
  W13_args m ρ c main_arg3 (by decide)
theorem W13_main_arg4 (c : Dev nD) : W13 m ρ c (Proc.devRef .tc main_arg4) = m ((c : Thread nD τ).loc main_arg4) :=
  W13_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V10 m ρ) c
  | ⟨1, _⟩ => fun c => dat1 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W13`, the generator register at some state. -/
abbrev Tₙ (c : Dev nD) : sProp 𝕄 := iprop(StableHlo.held (c : Thread nD τ) (Pipeline.ucRefs τ sig) (W13 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V10 m ρ) c).loose
  hwaits := Pipeline.hwaits_of_owed_zero _ _ _ _ L lv 0 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec0 c (V10 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V10 m ρ c) (A_eq0 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V10 m ρ c) (V11 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) (A_eq1 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hi : Pipeline.ΦA spec1 c ⊢ (pdats m ρ 1 c).Φ 0 := hin1 (V11 m ρ) c
    unfold Pipeline.ΦA at hi
    iintro ⟨Hp, -, Hr⟩
    iapply hi
    isplitl [Hr]; · iexact Hr
    iexact Hp
  hout c := by
    have ho : (pdats m ρ 1 c).Φ (Fin.last (Pipeline.pin (pcfgs (F := F)) adm 1).N) ⊢ Pipeline.ΦA spec1 c := hout1 (V11 m ρ) c
    unfold Pipeline.ΦA at ho
    rw [Pipeline.ownSems0_none]
    iintro H
    ihave H := ho $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .region (reg0 m ρ),
    .region (reg1 m ρ),
    .host (hseg hostOps2 hostOps2_sub hostOps2_fresh (W12 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, and at every final state
    each unscoped buffer holds `W13`'s contents and every semaphore counter is zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W13 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- THE FRAME: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c =>
      ⟨(hr.1 c _ (mem_uc main_arg0 (by decide))).trans (W13_main_arg0 m ρ c),
       (hr.1 c _ (mem_uc main_arg1 (by decide))).trans (W13_main_arg1 m ρ c),
       (hr.1 c _ (mem_uc main_arg2 (by decide))).trans (W13_main_arg2 m ρ c),
       (hr.1 c _ (mem_uc main_arg3 (by decide))).trans (W13_main_arg3 m ρ c),
       (hr.1 c _ (mem_uc main_arg4 (by decide))).trans (W13_main_arg4 m ρ c)⟩, hr.2⟩) (run_all m ρ)

end Cert.KernelIdeal.Run

end
-- ==== Proof.KernelFrame.lean ====
/- The printed kernel is, term for term, the idealized one at every instance, so its frame is the idealized run's. -/
module
public import proofs.«01_k».proof.Defs
public import proofs.«01_k».proof.Proof.Gen.Kernel
public import proofs.«01_k».proof.Proof.KernelIdeal.Run
public import Idealize.ShloMosaic.Lib.Tactic
public import Idealize.ShloMosaic.Lib.Pipeline.FrameBody
@[expose] public section
set_option maxRecDepth 16384
noncomputable section
namespace Cert.Proof
open Idealize.ShloMosaic Idealize.ShloMosaic.Tactic Idealize.SL.Sem

section
variable {F : FTy → Type} [FloatOps F] [Cert.Kernel.Facts] [Cert.KernelIdeal.Facts]
/-- The two printings declare one `@main`. -/
theorem main_eq : @Cert.Kernel.main F _ _ = @Cert.KernelIdeal.main F _ _ := by sl_kernel_rfl
/-- And the same functions. -/
theorem defs_eq : @Cert.Kernel.defs F _ _ = @Cert.KernelIdeal.defs F _ _ := by sl_kernel_rfl
end

set_option maxHeartbeats 4000000 in
/-- The idealized kernel's frame. -/
theorem frame_ideal : letI := Cert.KernelIdeal.Gen.facts; Cert.quiescent_KernelIdeal := by
  intro m g _
  exact Cert.KernelIdeal.Run.frame m g

set_option maxHeartbeats 4000000 in
/-- The printed kernel's frame. -/
theorem frame_kernel : letI := Cert.Kernel.Gen.facts; Cert.quiescent_Kernel := by
  intro m g _
  letI := Cert.Kernel.Gen.facts
  letI := Cert.KernelIdeal.Gen.facts
  rw [main_eq (F := Bits), defs_eq (F := Bits)]
  exact Cert.KernelIdeal.Run.frame (F := Bits) m g
end Cert.Proof
end
-- ==== Proof.Reference.lean ====
/- The reference's run: every buffer ends at what its straight line of host operations leaves, and its frame. -/
module
public import proofs.«01_k».proof.Defs
public import proofs.«01_k».proof.Proof.Gen.ReferenceIdeal
public import Idealize.ShloMosaic.Adequacy
public import Idealize.ShloMosaic.Init
public import Idealize.ShloMosaic.Lib.Pipeline.ValueKit
public import Idealize.ShloMosaic.Lib.Quiescent
@[expose] public section
set_option maxRecDepth 16384
noncomputable section
namespace Cert.Proof
open Idealize.ShloMosaic Idealize.SL.Sem

set_option maxHeartbeats 1600000 in
/-- The reference's frame: its arguments end as launched; it declares no semaphore. -/
theorem ref_frame : letI := Cert.ReferenceIdeal.Gen.facts; Cert.quiescent_ReferenceIdeal := fun m g _ => by
  hlo_run
  · exact fun _ => ⟨trivial, trivial, trivial, trivial, trivial⟩
  · exact sem_eq_zero_of_no_sems (sig := Cert.ReferenceIdeal.sig) (by decide) _
end Cert.Proof
end
-- ==== Proof.KernelIdeal.RotateTiles.lean ====
module
public import proofs.«01_k».proof.Proof.KernelIdeal.Rotate
public import Idealize.ShloMosaic.Lib.Pipeline.ValueKit
@[expose] public section
set_option maxRecDepth 16384
noncomputable section
namespace Cert.KernelIdeal.Run
open Cert.KernelIdeal Cert.KernelIdeal.Gen Idealize.ShloMosaic Idealize.ShloMosaic.TcCoe Idealize.SL.Sem

/-- Column `y` of a row of `x` after the rotation: the contraction over the 256 columns of `y`'s pair of groups, then the factor. -/
def ROT (x : FVec Ideal S128x6144 .bf16) (h : FVec Ideal S256x256 .bf16) (y : S128x6144.Idx) : EReal :=
  (∑ k : Fin 256, x (ix2 (y 0) ⟨(y 1).val / 256 * 256 + k.val, by have := (y 1).isLt; have := k.isLt; simp at *; omega⟩)
    * h (ix2 k ⟨(y 1).val % 256, Nat.mod_lt _ (by decide)⟩)) * Scalar.ofBits (F := Ideal) .f32 0x3DB504F3#32

/-- One tile of the rotation: what a store of 256 columns holds. -/
theorem tile_at (x : FVec Ideal S128x6144 .bf16) (h : FVec Ideal S256x256 .bf16) (o : ℕ) (inb) (i : S128x256.Idx) (y : S128x6144.Idx)
    (ho : o % 256 = 0) (h0 : (y 0 : ℕ) = i 0) (h1 : (y 1 : ℕ) = o + i 1) :
    k0_pay3 (F := Ideal) h (View.ld x (Rect.unit (s := S128x6144) ![0, o] S128x256.size inb)) i = ROT x h y := by
  have hi := (i 1).isLt
  simp at hi
  pointwise [k0_pay3, k0_pay2, ROT]
  refine congrArg (· * _) (Finset.sum_congr rfl fun k _ => ?_)
  congr 1
  · blk_point [h0, h1]
  · blk_point [h0, h1]

theorem tile4_at (x : FVec Ideal S128x6144 .bf16) (h : FVec Ideal S256x256 .bf16) (o : ℕ) (inb) (i : S128x256.Idx) (y : S128x6144.Idx)
    (ho : o % 256 = 0) (h0 : (y 0 : ℕ) = i 0) (h1 : (y 1 : ℕ) = o + i 1) :
    k0_pay4 (F := Ideal) h (View.ld x (Rect.unit (s := S128x6144) ![0, o] S128x256.size inb)) i = ROT x h y := by
  refine Eq.trans ?_ (tile_at x h o inb i y ho h0 h1)
  pointwise [k0_pay4]

theorem tile6_at (x : FVec Ideal S128x6144 .bf16) (h : FVec Ideal S256x256 .bf16) (o : ℕ) (inb) (i : S128x256.Idx) (y : S128x6144.Idx)
    (ho : o % 256 = 0) (h0 : (y 0 : ℕ) = i 0) (h1 : (y 1 : ℕ) = o + i 1) :
    k0_pay6 (F := Ideal) h (View.ld x (Rect.unit (s := S128x6144) ![0, o] S128x256.size inb)) i = ROT x h y := by
  refine Eq.trans ?_ (tile_at x h o inb i y ho h0 h1)
  pointwise [k0_pay6, k0_pay3]

/-- The absolute value of column `c` of row `r` after the rotation. -/
def ABS (x : FVec Ideal S128x6144 .bf16) (h : FVec Ideal S256x256 .bf16) (r : Fin 128) (c : Fin 6144) : EReal :=
  FloatOps.absf (F := Ideal) (φ := .f32) (ROT x h (ix2 r c))

/-- A row's largest absolute value. -/
def AMX (x : FVec Ideal S128x6144 .bf16) (h : FVec Ideal S256x256 .bf16) (r : Fin 128) : EReal :=
  Finset.fold max (Ideal.ofBits .f32 0xFF800000#32) (fun c : Fin 6144 => ABS x h r c) Finset.univ

/-- A row's scale: a seventh of the largest absolute value, one for a row of zeros. -/
def SCL (x : FVec Ideal S128x6144 .bf16) (h : FVec Ideal S256x256 .bf16) (r : Fin 128) : EReal :=
  if AMX x h r = 0 then 1 else Ideal.div (AMX x h r) (Ideal.ofBits .f32 0x40E00000#32)

/-- A code: the rotated value over its row's scale, rounded and clipped to `-7 … 7`. -/
def CODE (x : FVec Ideal S128x6144 .bf16) (h : FVec Ideal S256x256 .bf16) (y : S128x6144.Idx) : BitVec 8 :=
  FloatOps.fptosi (F := Ideal) (φ := .f32) 8 (min (Ideal.ofBits .f32 0x40E00000#32) (max (Ideal.ofBits .f32 0xC0E00000#32)
    (Ideal.liftRound Ideal.roundHalfEven (Ideal.div (ROT x h y) (SCL x h (y 0))))))

theorem absf_nonneg (x : EReal) : 0 ≤ FloatOps.absf (F := Ideal) (φ := .f32) x := by
  show 0 ≤ max x (-x)
  rcases le_total 0 x with h | h
  · exact le_max_of_le_left h
  · exact le_max_of_le_right (EReal.neg_le_neg_iff.mp (by simpa using h))

/-- The larger of the absolute values in the two groups of a tile. -/
theorem pair_at (x : FVec Ideal S128x6144 .bf16) (h : FVec Ideal S256x256 .bf16) (o : ℕ) (inb) (i : S128x128.Idx)
    (ho : o % 256 = 0) (ho' : o < 6144) :
    k0_pay9 (F := Ideal) h (View.ld x (Rect.unit (s := S128x6144) ![0, o] S128x256.size inb)) i
      = max (ABS x h (i 0) ⟨o + (i 1).val, by have := (i 1).isLt; simp at this; omega⟩)
          (ABS x h (i 0) ⟨o + 128 + (i 1).val, by have := (i 1).isLt; simp at this; omega⟩) := by
  have e : k0_pay9 (F := Ideal) h (View.ld x (Rect.unit (s := S128x6144) ![0, o] S128x256.size inb)) i
    = max (FloatOps.absf (F := Ideal) (φ := .f32) (k0_pay3 h (View.ld x (Rect.unit (s := S128x6144) ![0, o] S128x256.size inb)) (ix2 (i 0) ⟨(i 1).val, by have := (i 1).isLt; simp at this; omega⟩)))
      (FloatOps.absf (F := Ideal) (φ := .f32) (k0_pay3 h (View.ld x (Rect.unit (s := S128x6144) ![0, o] S128x256.size inb)) (ix2 (i 0) ⟨128 + (i 1).val, by have := (i 1).isLt; simp at this; omega⟩))) := by
    pointwise [k0_pay9, k0_pay7, k0_pay3]
  rw [e]
  unfold ABS
  rw [tile_at x h o inb _ (ix2 (i 0) ⟨o + (i 1).val, by have := (i 1).isLt; simp at this; omega⟩) ho rfl rfl,
    tile_at x h o inb (ix2 (i 0) ⟨128 + (i 1).val, by have := (i 1).isLt; simp at this; omega⟩)
      (ix2 (i 0) ⟨o + 128 + (i 1).val, by have := (i 1).isLt; simp at this; omega⟩) ho rfl (Nat.add_assoc _ _ _)]

theorem inbT (n : ℕ) (hn : n < 24) : ∀ a, (![0, 256 * n] : Fin 2 → ℕ) a + S128x256.size a ≤ S128x6144.size a := by
  intro a; fin_cases a <;> simp [S128x256, S128x6144] <;> omega

/-- The running maximum of the absolute values after `n` tiles. -/
def MX (x : FVec Ideal S128x6144 .bf16) (h : FVec Ideal S256x256 .bf16) : ℕ → FVec Ideal S128x128 .f32
  | 0 => broadcast S128x128 (Scalar.ofBits .f32 0x00000000#32)
  | n + 1 => if hn : n < 24 then
      maximumf (MX x h n) (k0_pay9 h (View.ld x (Rect.unit (s := S128x6144) ![0, 256 * n] S128x256.size (inbT n hn))))
    else MX x h n

/-- The running maximum bounds exactly the columns the first `n` tiles cover. -/
theorem MX_le (x : FVec Ideal S128x6144 .bf16) (h : FVec Ideal S256x256 .bf16) (i : S128x128.Idx) (b : EReal) : ∀ n ≤ 24,
    MX x h n i ≤ b ↔ 0 ≤ b ∧ ∀ c : Fin 6144, c.val < 256 * n → c.val % 128 = (i 1).val → ABS x h (i 0) c ≤ b
  | 0, _ => by
    have e : MX x h 0 i = 0 := by
      show Ideal.ofBits .f32 0x00000000#32 = 0
      simp
    rw [e]
    exact ⟨fun hb => ⟨hb, fun c hc => absurd hc (by omega)⟩, fun hb => hb.1⟩
  | n + 1, hn => by
    have hn' : n < 24 := by omega
    have h1 := (i 1).isLt
    simp at h1
    have e : MX x h (n + 1) i = max (MX x h n i)
        (k0_pay9 h (View.ld x (Rect.unit (s := S128x6144) ![0, 256 * n] S128x256.size (inbT n hn'))) i) := by
      show (if hn : n < 24 then _ else _ : FVec Ideal S128x128 .f32) i = _
      rw [dif_pos hn']; rfl
    rw [e, pair_at _ _ _ _ _ (by omega) (by omega), max_le_iff, max_le_iff, MX_le x h i b n (by omega)]
    constructor
    · rintro ⟨⟨hb, hc⟩, ha, hd⟩
      refine ⟨hb, fun c hc1 hc2 => ?_⟩
      by_cases hlt : c.val < 256 * n
      · exact hc c hlt hc2
      · by_cases hlo : c.val < 256 * n + 128
        · have : c = ⟨256 * n + (i 1).val, by omega⟩ := Fin.ext (by simp; omega)
          rw [this]; exact ha
        · have : c = ⟨256 * n + 128 + (i 1).val, by omega⟩ := Fin.ext (by simp; omega)
          rw [this]; exact hd
    · rintro ⟨hb, hc⟩
      exact ⟨⟨hb, fun c h1 h2 => hc c (by omega) h2⟩, hc _ (by simp; omega) (by simp; omega), hc _ (by simp; omega) (by simp; omega)⟩

/-- The maximum over the 128 running maxima is the row's. -/
theorem fold_MX (x : FVec Ideal S128x6144 .bf16) (h : FVec Ideal S256x256 .bf16) (r : Fin 128) :
    Finset.fold max (Ideal.ofBits .f32 0xFF800000#32) (fun j : Fin 128 => MX x h 24 (ix2 r j)) Finset.univ = AMX x h r := by
  refine eq_of_forall_ge_iff fun b => ?_
  rw [AMX, Finset.fold_max_le, Finset.fold_max_le]
  refine and_congr_right fun _ => ?_
  constructor
  · intro H c _
    have := (MX_le x h (ix2 r ⟨c.val % 128, Nat.mod_lt _ (by decide)⟩) b 24 le_rfl).1 (H _ (Finset.mem_univ _))
    exact this.2 c c.isLt rfl
  · intro H j _
    refine (MX_le x h (ix2 r j) b 24 le_rfl).2 ⟨?_, fun c _ _ => H c (Finset.mem_univ _)⟩
    exact le_trans (absf_nonneg _) (H ⟨0, by decide⟩ (Finset.mem_univ _))

/-- A row's scale from a row of maxima. -/
theorem pay93_eq (v1 : FVec Ideal S256x256 .bf16) (m : FVec Ideal S128x128 .f32) (v : FVec Ideal S128x256 .bf16) (i : S128x128.Idx) :
    k0_pay93 (F := Ideal) (k0_pay2 v1) m v i
     = (if Finset.fold max (Ideal.ofBits .f32 0xFF800000#32) (fun j : Fin 128 => maximumf m (k0_pay9 v1 v) (ix2 (i 0) j)) Finset.univ = 0 then 1
        else Ideal.div (Finset.fold max (Ideal.ofBits .f32 0xFF800000#32) (fun j : Fin 128 => maximumf m (k0_pay9 v1 v) (ix2 (i 0) j)) Finset.univ) (Ideal.ofBits .f32 0x40E00000#32)) := by
  pointwise [k0_pay93, k0_pay90, k0_pay9, k0_pay7]

/-- A sum that keeps one index only. -/
theorem diag_sum (f : Fin 128 → EReal) (k : Fin 128) :
    ∑ x, Scalar.select (IntOp.cmpi .eq (BitVec.ofNat 32 x.val) (BitVec.ofNat 32 k.val)) (f x) (0 : EReal) = f k := by
  rw [Finset.sum_eq_single k]
  · simp [IntOp.cmpi, Scalar.select]
  · intro j _ hj
    have hne : ¬ BitVec.ofNat 32 j.val = BitVec.ofNat 32 k.val := fun h => hj (Fin.ext (by
      have := congrArg BitVec.toNat h
      simp only [BitVec.toNat_ofNat] at this
      have h1 := j.isLt
      have h2 := k.isLt
      omega))
    simp only [IntOp.cmpi, Scalar.select, beq_eq_false_iff_ne.mpr hne]
    rfl
  · intro hk; exact absurd (Finset.mem_univ _) hk

section
variable (c : Dev nD) (i : grid0.Coords) (arg1 : Memref sig .tc .vmem S128x6144 .bf16) (harg1 : arg1.IsWhole) (arg2 : Memref sig .tc .vmem S128x6144 .bf16) (harg2 : arg2.IsWhole) (arg3 : Memref sig .tc .vmem S256x256 .bf16) (harg3 : arg3.IsWhole) (arg4 : Memref sig .tc .vmem S128x6144 .i8) (harg4 : arg4.IsWhole) (arg5 : Memref sig .tc .vmem S1x1x128 .f32) (harg5 : arg5.IsWhole) (arg6 : Memref sig .tc .vmem S128x128 .f32) (harg6 : arg6.IsWhole) (arg7 : Memref sig .tc .vmem S128x6144 .bf16) (harg7 : arg7.IsWhole) (arg8 : Memref sig .tc .vmem S128x6144 .f32) (harg8 : arg8.IsWhole)
  (x0 x1 : Vec Ideal S128x6144 .bf16) (x2 : Vec Ideal S256x256 .bf16)

/-- The rotated verify rows as the body leaves them. -/
theorem vrot_at (y : S128x6144.Idx) : out0_A_6 c i arg1 harg1 arg2 harg2 arg3 harg3 arg4 harg4 arg5 harg5 arg6 harg6 arg7 harg7 arg8 harg8 x0 x1 x2 y = ROT x1 x2 y := by
  unfold out0_A_6; frame_out
  canon_tiles x h
  all_goals exact tile6_at _ _ _ _ _ _ (by decide) h0 (by omega)

/-- The rotated draft rows in the scratch. -/
theorem scratch_at (y : S128x6144.Idx) : View.canon (kernelRun0_A.sl.HS0_24 c arg1 harg1 arg3 harg3 x0 x2) y = ROT x0 x2 y := by
  frame_out
  canon_tiles x h
  all_goals exact tile4_at _ _ _ _ _ _ (by decide) h0 (by omega)

/-- The broadcast scale the codes are divided by. -/
theorem scale_word (i : S128x128.Idx) : kernelRun0_A.sl.r_26 c arg1 harg1 arg3 harg3 x0 x2 i = SCL x0 x2 (i 0) := by
  have e : kernelRun0_A.sl.r_26 c arg1 harg1 arg3 harg3 x0 x2 i =
    k0_pay93 (k0_pay2 x2) (MX x0 x2 23) (View.ld x0 (Rect.unit (s := S128x6144) ![0, 256 * 23] S128x256.size (inbT 23 (by decide)))) i := by
    frame_out
    sl_kernel_rfl
  rw [e]
  refine (pay93_eq _ _ _ _).trans ?_
  exact congrArg (fun A : EReal => if A = 0 then (1 : EReal) else Ideal.div A (Ideal.ofBits .f32 0x40E00000#32)) (fold_MX x0 x2 (i 0))

/-- The scale's column as the body leaves it. -/
theorem scol_at (y : S128x128.Idx) : out0_A_5 c i arg1 harg1 arg2 harg2 arg3 harg3 arg4 harg4 arg5 harg5 arg6 harg6 arg7 harg7 arg8 harg8 x0 x1 x2 y = SCL x0 x2 (y 0) := by
  unfold out0_A_5; rw [View.read_writes_junk_eq_canon]
  delta kernelRun0_A
  dsimp only
  canon_tiles x h
  all_goals
    refine (scale_word c arg1 harg1 arg3 harg3 x0 x2 x).trans ?_
    rw [show x 0 = y 0 from Fin.ext h0.symm]

/-- The scale's row: the diagonal of the broadcast scale, picked out by a sum. -/
theorem srow_at (y : S1x1x128.Idx) : out0_A_4 c i arg1 harg1 arg2 harg2 arg3 harg3 arg4 harg4 arg5 harg5 arg6 harg6 arg7 harg7 arg8 harg8 x0 x1 x2 y = SCL x0 x2 (y 2) := by
  unfold out0_A_4; rw [View.read_writes_junk_eq_canon]
  delta kernelRun0_A
  dsimp only
  canon_tiles x h
  all_goals
    have e : x 2 = y 2 := Fin.ext h2.symm
    rw [← e]
    pointwise [k0_pay94]
    refine (diag_sum (fun k => kernelRun0_A.sl.r_26 c arg1 harg1 arg3 harg3 x0 x2 (ix2 k (x 2))) (x 2)).trans ?_
    exact scale_word c arg1 harg1 arg3 harg3 x0 x2 _

/-- One group of codes. -/
theorem codes_tile {L : List (View.Piece (Elt Ideal) S128x6144 .f32)} {sc : FVec Ideal S128x128 .f32} (o : ℕ) (inb)
    (hL : ∀ y, View.canon L y = ROT x0 x2 y) (hs : ∀ i, sc i = SCL x0 x2 (i 0))
    (i : S128x128.Idx) (y : S128x6144.Idx) (h0 : (y 0 : ℕ) = i 0) (h1 : (y 1 : ℕ) = o + i 1) :
    k0_pay95 sc (arg8.view.readCov L (Rect.unit (s := S128x6144) ![0, o] S128x128.size inb).toLoadRect) i = CODE x0 x2 y := by
  have e : (arg8.view.readCov L (Rect.unit (s := S128x6144) ![0, o] S128x128.size inb).toLoadRect) i = ROT x0 x2 y := by
    have hr : (arg8.view.readCov L (Rect.unit (s := S128x6144) ![0, o] S128x128.size inb).toLoadRect) i
        = View.ld (View.canon L) (Rect.unit (s := S128x6144) ![0, o] S128x128.size inb) i := by
      rw [View.readCov_eq_canon']
    rw [hr, show View.canon L = ROT x0 x2 from funext hL]
    blk_point [h0, h1]
  have e0 : i 0 = y 0 := Fin.ext h0.symm
  unfold CODE
  rw [← e, ← e0, ← hs]
  pointwise [k0_pay95]

/-- The codes as the body leaves them. -/
theorem codes_at (y : S128x6144.Idx) : out0_A_3 c i arg1 harg1 arg2 harg2 arg3 harg3 arg4 harg4 arg5 harg5 arg6 harg6 arg7 harg7 arg8 harg8 x0 x1 x2 y = CODE x0 x2 y := by
  unfold out0_A_3; rw [View.read_writes_junk_eq_canon]
  delta kernelRun0_A
  dsimp only
  have hL := scratch_at c arg1 harg1 arg3 harg3 x0 x2
  have hs := scale_word c arg1 harg1 arg3 harg3 x0 x2
  canon_tiles x h
  all_goals exact codes_tile arg8 x0 x2 _ _ hL hs _ _ h0 (by omega)

end
end Cert.KernelIdeal.Run
end
-- ==== Proof.KernelIdeal.RotateArrays.lean ====
/- The four arrays the first call leaves, each element in terms of the arrays it reads. -/
module
public import proofs.«01_k».proof.Proof.KernelIdeal.RotateTiles
@[expose] public section
set_option maxRecDepth 16384
noncomputable section
namespace Cert.KernelIdeal.Run
open Cert.KernelIdeal Cert.KernelIdeal.Gen Idealize.ShloMosaic Idealize.ShloMosaic.TcCoe Idealize.SL.Sem

/-- Column `n` of row `r` of the whole array `X` after the rotation. -/
def GROT (X : FVec Ideal S3072x6144 .bf16) (H : FVec Ideal S256x256 .bf16) (r : Fin 3072) (n : Fin 6144) : EReal :=
  (∑ k : Fin 256, X (ix2 r ⟨n.val / 256 * 256 + k.val, by omega⟩) * H (ix2 k ⟨n.val % 256, Nat.mod_lt _ (by decide)⟩))
    * Scalar.ofBits (F := Ideal) .f32 0x3DB504F3#32

/-- A row's largest absolute value. -/
def GAMX (X : FVec Ideal S3072x6144 .bf16) (H : FVec Ideal S256x256 .bf16) (r : Fin 3072) : EReal :=
  Finset.fold max (Ideal.ofBits .f32 0xFF800000#32) (fun c : Fin 6144 => FloatOps.absf (F := Ideal) (φ := .f32) (GROT X H r c)) Finset.univ

/-- A row's scale. -/
def GSCL (X : FVec Ideal S3072x6144 .bf16) (H : FVec Ideal S256x256 .bf16) (r : Fin 3072) : EReal :=
  if GAMX X H r = 0 then 1 else Ideal.div (GAMX X H r) (Ideal.ofBits .f32 0x40E00000#32)

/-- A code. -/
def GCODE (X : FVec Ideal S3072x6144 .bf16) (H : FVec Ideal S256x256 .bf16) (r : Fin 3072) (n : Fin 6144) : BitVec 8 :=
  FloatOps.fptosi (F := Ideal) (φ := .f32) 8 (min (Ideal.ofBits .f32 0x40E00000#32) (max (Ideal.ofBits .f32 0xC0E00000#32)
    (Ideal.liftRound Ideal.roundHalfEven (Ideal.div (GROT X H r n) (GSCL X H r)))))

section
variable {x : FVec Ideal S128x6144 .bf16} {X : FVec Ideal S3072x6144 .bf16} {h H : FVec Ideal S256x256 .bf16} (hh : h = H)
include hh
theorem ROT_row (y : S128x6144.Idx) (r : Fin 3072) (hx : ∀ n, x (ix2 (y 0) n) = X (ix2 r n)) : ROT x h y = GROT X H r (y 1) := by
  subst hh
  exact congrArg (· * _) (Finset.sum_congr rfl fun k _ => congrArg (· * _) (hx _))
theorem AMX_row (r0 : Fin 128) (r : Fin 3072) (hx : ∀ n, x (ix2 r0 n) = X (ix2 r n)) : AMX x h r0 = GAMX X H r :=
  congrArg (fun f : Fin 6144 → EReal => Finset.fold max (Ideal.ofBits .f32 0xFF800000#32) f Finset.univ)
    (funext fun n => congrArg (FloatOps.absf (F := Ideal) (φ := .f32)) (ROT_row hh (ix2 r0 n) r hx))
theorem SCL_row (r0 : Fin 128) (r : Fin 3072) (hx : ∀ n, x (ix2 r0 n) = X (ix2 r n)) : SCL x h r0 = GSCL X H r := by
  unfold SCL GSCL; rw [AMX_row hh r0 r hx]
theorem CODE_row (y : S128x6144.Idx) (r : Fin 3072) (hx : ∀ n, x (ix2 (y 0) n) = X (ix2 r n)) : CODE x h y = GCODE X H r (y 1) := by
  have e := SCL_row hh (y 0) r hx
  unfold CODE GCODE; rw [ROT_row hh y r hx, ← e]
end

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0]
    ∧ win0_3.index t = ![t.val, 0] ∧ win0_4.index t = ![t.val, 0, 0] ∧ win0_5.index t = ![t.val, 0] ∧ win0_6.index t = ![t.val, 0] :=
  (by decide +kernel : ∀ t : Fin grid0.N, _)

theorem row0_lt (t : Fin cfg0.N) (r : Fin 128) : t.val * 128 + r.val < 3072 := by
  have : t.val < 24 := lt_of_lt_of_eq t.isLt (show cfg0.N = 24 from N_0)
  omega

theorem xd_at (c : Dev nD) (t : Fin cfg0.N) (r : Fin 128) (n : Fin 6144) :
    iblk0 V c 0 t (ix2 r n) = (V c main_v0 : FVec Ideal S3072x6144 .bf16) (ix2 ⟨t.val * 128 + r.val, row0_lt t r⟩ n) := by
  obtain ⟨e0, e1, e2, e3, e4, e5, e6⟩ := idx0 t
  blk_ext [iblk0, e0]
theorem xv_at (c : Dev nD) (t : Fin cfg0.N) (r : Fin 128) (n : Fin 6144) :
    iblk0 V c 1 t (ix2 r n) = (V c main_v1 : FVec Ideal S3072x6144 .bf16) (ix2 ⟨t.val * 128 + r.val, row0_lt t r⟩ n) := by
  obtain ⟨e0, e1, e2, e3, e4, e5, e6⟩ := idx0 t
  blk_ext [iblk0, e1]
theorem hh_eq (c : Dev nD) (t : Fin cfg0.N) : iblk0 V c 2 t = (V c main_v15 : FVec Ideal S256x256 .bf16) := by
  obtain ⟨e0, e1, e2, e3, e4, e5, e6⟩ := idx0 t
  funext y
  blk_ext [iblk0, e2]

/-- What a point leaves in each output's buffer. -/
theorem outs0_3 (c : Dev nD) (t : Fin cfg0.N) (y : S128x6144.Idx) :
    (outsAt0 V c t).1 y = GCODE (V c main_v0) (V c main_v15) ⟨t.val * 128 + (y 0).val, row0_lt t (y 0)⟩ (y 1) := by
  refine Eq.trans (b := CODE (iblk0 V c 0 t) (iblk0 V c 2 t) y) ?_ (CODE_row (hh_eq V c t) y _ (fun n => xd_at V c t (y 0) n))
  dsimp only [outsAt0]
  apply codes_at
theorem outs0_4 (c : Dev nD) (t : Fin cfg0.N) (y : S1x1x128.Idx) :
    (outsAt0 V c t).2.1 y = GSCL (V c main_v0) (V c main_v15) ⟨t.val * 128 + (y 2).val, row0_lt t (y 2)⟩ := by
  refine Eq.trans (b := SCL (iblk0 V c 0 t) (iblk0 V c 2 t) (y 2)) ?_ (SCL_row (hh_eq V c t) (y 2) _ (fun n => xd_at V c t (y 2) n))
  dsimp only [outsAt0]
  apply srow_at
theorem outs0_5 (c : Dev nD) (t : Fin cfg0.N) (y : S128x128.Idx) :
    (outsAt0 V c t).2.2.1 y = GSCL (V c main_v0) (V c main_v15) ⟨t.val * 128 + (y 0).val, row0_lt t (y 0)⟩ := by
  refine Eq.trans (b := SCL (iblk0 V c 0 t) (iblk0 V c 2 t) (y 0)) ?_ (SCL_row (hh_eq V c t) (y 0) _ (fun n => xd_at V c t (y 0) n))
  dsimp only [outsAt0]
  apply scol_at
theorem outs0_6 (c : Dev nD) (t : Fin cfg0.N) (y : S128x6144.Idx) :
    (outsAt0 V c t).2.2.2 y = GROT (V c main_v1) (V c main_v15) ⟨t.val * 128 + (y 0).val, row0_lt t (y 0)⟩ (y 1) := by
  refine Eq.trans (b := ROT (iblk0 V c 1 t) (iblk0 V c 2 t) y) ?_ (ROT_row (hh_eq V c t) y _ (fun n => xv_at V c t (y 0) n))
  dsimp only [outsAt0]
  apply vrot_at

/-- The codes. -/
theorem codes_arr (c : Dev nD) : (dat0 V c).arrAt 3 cfg0.N = fun i : S3072x6144.Idx => GCODE (V c main_v0) (V c main_v15) (i 0) (i 1) := by
  refine (dat0 V c).arrAt_eq_of_covers 3 _ (by decide +kernel) fun t hf y => ?_
  blk_simp
  rw [after0_3]
  refine (outs0_3 V c t y).trans ?_
  obtain ⟨e0, e1, e2, e3, e4, e5, e6⟩ := idx0 t
  refine congrArg₂ (GCODE _ _) (Fin.ext ?_) (Fin.ext ?_)
  · blk_simp [e3]
  · blk_simp [e3]
/-- The scales, along the lanes. -/
theorem srow_arr (c : Dev nD) : (dat0 V c).arrAt 4 cfg0.N
    = fun i : S24x1x128.Idx => GSCL (V c main_v0) (V c main_v15) ⟨(i 0).val * 128 + (i 2).val, by have := (i 0).isLt; have := (i 2).isLt; simp at *; omega⟩ := by
  refine (dat0 V c).arrAt_eq_of_covers 4 _ (by decide +kernel) fun t hf y => ?_
  blk_simp
  rw [after0_4]
  refine (outs0_4 V c t y).trans ?_
  obtain ⟨e0, e1, e2, e3, e4, e5, e6⟩ := idx0 t
  refine congrArg (GSCL _ _) (Fin.ext ?_)
  blk_simp [e4]
/-- The scales, along the rows. -/
theorem scol_arr (c : Dev nD) : (dat0 V c).arrAt 5 cfg0.N = fun i : S3072x128.Idx => GSCL (V c main_v0) (V c main_v15) (i 0) := by
  refine (dat0 V c).arrAt_eq_of_covers 5 _ (by decide +kernel) fun t hf y => ?_
  blk_simp
  rw [after0_5]
  refine (outs0_5 V c t y).trans ?_
  obtain ⟨e0, e1, e2, e3, e4, e5, e6⟩ := idx0 t
  refine congrArg (GSCL _ _) (Fin.ext ?_)
  blk_simp [e5]
/-- The rotated verify rows. -/
theorem vrot_arr (c : Dev nD) : (dat0 V c).arrAt 6 cfg0.N = fun i : S3072x6144.Idx => GROT (V c main_v1) (V c main_v15) (i 0) (i 1) := by
  refine (dat0 V c).arrAt_eq_of_covers 6 _ (by decide +kernel) fun t hf y => ?_
  blk_simp
  rw [after0_6]
  refine (outs0_6 V c t y).trans ?_
  obtain ⟨e0, e1, e2, e3, e4, e5, e6⟩ := idx0 t
  refine congrArg₂ (GROT _ _) (Fin.ext ?_) (Fin.ext ?_)
  · blk_simp [e6]
  · blk_simp [e6]
end Cert.KernelIdeal.Run
end
-- ==== Proof.KernelIdeal.MatmulTiles.lean ====
/- What the second pallas_call's body leaves, value by value: the decoded weights and the two products. -/
module
public import proofs.«01_k».proof.Proof.KernelIdeal.Matmul
public import Idealize.ShloMosaic.Lib.Pipeline.ValueKit
@[expose] public section
set_option maxRecDepth 16384
noncomputable section
namespace Cert.KernelIdeal.Run
open Cert.KernelIdeal Cert.KernelIdeal.Gen Idealize.ShloMosaic Idealize.ShloMosaic.TcCoe Idealize.SL.Sem

/-- Row `k` of the packed weights, opened: the low nibble on even rows, the high nibble on odd ones. -/
def NIB (w : IVec S3072x1024 8) (k : Fin 6144) (n : Fin 1024) : BitVec 32 :=
  if k.val % 2 < 1 then IntOp.andi (BitVec.setWidth 32 (w (ix2 ⟨k.val / 2, by omega⟩ n))) 15#32
  else IntOp.shrsi ArithUnit.vector (BitVec.setWidth 32 (w (ix2 ⟨k.val / 2, by omega⟩ n))) 4#32

/-- A decoded weight: its nibble, minus its group's zero point, times its group's scale. -/
def WGT (w : IVec S3072x1024 8) (s z : FVec Ideal S48x1024 .f32) (k : Fin 6144) (n : Fin 1024) : EReal :=
  (FloatOps.sitofp (F := Ideal) .bf16 (NIB w k n) - z (ix2 ⟨k.val / 128, by omega⟩ n)) * s (ix2 ⟨k.val / 128, by omega⟩ n)

/-- One group of decoded weights. -/
theorem wtile_at (w : IVec S3072x1024 8) (s z : FVec Ideal S48x1024 .f32) (o p q : ℕ) (inb inb' inb'') (i : S128x1024.Idx) (y : S6144x1024.Idx)
    (ho : o = 64 * p) (hq : q = 128 * p) (h0 : (y 0 : ℕ) = q + i 0) (h1 : (y 1 : ℕ) = i 1) :
    k1_pay5 (F := Ideal) (View.ld w (Rect.unit (s := S3072x1024) ![o, 0] S64x1024.size inb))
      (View.ld z (Rect.unit (s := S48x1024) ![p, 0] S1x1024.size inb'))
      (View.ld s (Rect.unit (s := S48x1024) ![p, 0] S1x1024.size inb'')) i = WGT w s z (y 0) (y 1) := by
  subst ho hq
  have hi := (i 0).isLt
  simp at hi
  have e0 : (⟨64 * p + (i 0).val / 2, by have := inb 0; simp at this; omega⟩ : Fin 3072) = ⟨(y 0).val / 2, by have := (y 0).isLt; simp at this; omega⟩ := Fin.ext (by simp; omega)
  have e1 : i 1 = y 1 := Fin.ext h1.symm
  have e2 : (⟨p, by have := inb' 0; simp at this; omega⟩ : Fin 48) = ⟨(y 0).val / 128, by have := (y 0).isLt; simp at this; omega⟩ := Fin.ext (by simp; omega)
  have e3 : (i 0).val % 2 = (y 0).val % 2 := by omega
  pointwise [k1_pay5, WGT, NIB]
  simp only [e3, e0, e2]
  rw [e1]
  rfl

/-- A load of the whole of an array reads the array. -/
theorem whole_at (f : Vec Ideal S6144x1024 .bf16) (inb) (j : S6144x1024.Idx) :
    (View.ld f (Rect.unit (s := S6144x1024) ![0, 0] S6144x1024.size inb) : Vec Ideal S6144x1024 .bf16) j = f j := by
  exact congrFun (View.ld_unit_zero (by funext a; fin_cases a <;> rfl) inb f) j

section
variable (c : Dev nD) (i : grid1.Coords) (arg2 : Memref sig .tc .vmem S512x6144 .i8) (harg2 : arg2.IsWhole) (arg3 : Memref sig .tc .vmem S512x6144 .bf16) (harg3 : arg3.IsWhole) (arg4 : Memref sig .tc .vmem S3072x1024 .i8) (harg4 : arg4.IsWhole) (arg5 : Memref sig .tc .vmem S48x1024 .f32) (harg5 : arg5.IsWhole) (arg6 : Memref sig .tc .vmem S48x1024 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S6144x1024 .bf16) (harg10 : arg10.IsWhole) (arg11 : Memref sig .tc .vmem S512x6144 .bf16) (harg11 : arg11.IsWhole)
  (x0 : Vec Ideal S512x6144 .i8) (x1 : Vec Ideal S512x6144 .bf16) (x2 : Vec Ideal S3072x1024 .i8) (x3 : Vec Ideal S48x1024 .f32) (x4 : Vec Ideal S48x1024 .f32) (x5 : Vec Ideal S512x128 .f32)

/-- The decoded weights as a deciding point leaves them. -/
theorem weights_at (hc0 : cond1_0 i) (y : S6144x1024.Idx) :
    sout1_A_0 c i arg2 harg2 arg3 harg3 arg4 harg4 arg5 harg5 arg6 harg6 arg7 harg7 arg8 harg8 arg9 harg9 arg10 harg10 arg11 harg11 hc0 x0 x1 x2 x3 x4 x5 y = WGT x2 x3 x4 (y 0) (y 1) := by
  unfold sout1_A_0; frame_out
  canon_tiles x h
  all_goals exact wtile_at _ _ _ _ _ _ _ _ _ _ _ (by rfl) (by rfl) (by omega) h1

/-- The decoded weights, read back whole. -/
theorem weights_word : kernelRun1_A.sl.v10 c arg4 harg4 arg5 harg5 arg6 harg6 arg10 x2 x3 x4 = fun y => WGT x2 x3 x4 (y 0) (y 1) := by
  delta kernelRun1_A.sl.v10
  rw [View.readCov_eq_canon']
  have e : View.canon (kernelRun1_A.sl.HS0_48 c arg4 harg4 arg5 harg5 arg6 harg6 x2 x3 x4) = fun y => WGT x2 x3 x4 (y 0) (y 1) := by
    funext y
    frame_out
    canon_tiles x h
    all_goals exact wtile_at _ _ _ _ _ _ _ _ _ _ _ (by rfl) (by rfl) (by omega) h1
  rw [e]
  funext j
  exact whole_at (fun y : S6144x1024.Idx => WGT x2 x3 x4 (y 0) (y 1)) inb_S6144x1024_S6144x1024_0_0 j

/-- The codes, converted, read back whole. -/
theorem codes_word : kernelRun1_A.sl.v9 c arg2 harg2 arg11 x0 = k1_pay2 x0 := by
  frame_out

/-- The draft product at a deciding point. -/
theorem ydA_at (hc0 : cond1_0 i) (y : S512x1024.Idx) :
    out1_A_6 c i arg2 harg2 arg3 harg3 arg4 harg4 arg5 harg5 arg6 harg6 arg7 harg7 arg8 harg8 arg9 harg9 arg10 harg10 arg11 harg11 hc0 x0 x1 x2 x3 x4 x5 y
      = (∑ k : Fin 6144, FloatOps.sitofp (F := Ideal) .bf16 (x0 (ix2 (y 0) k)) * WGT x2 x3 x4 k (y 1)) * x5 (ix2 (y 0) 0) := by
  rw [out1_A_6, View.read_writes_junk_eq_canon]
  delta kernelRun1_A
  dsimp only
  simp only [codes_word, weights_word]
  frame_out
  pointwise [k1_pay3, k1_pay4, k1_pay2]

/-- The verify product at a deciding point. -/
theorem yvA_at (hc0 : cond1_0 i) (y : S512x1024.Idx) :
    out1_A_7 c i arg2 harg2 arg3 harg3 arg4 harg4 arg5 harg5 arg6 harg6 arg7 harg7 arg8 harg8 arg9 harg9 arg10 harg10 arg11 harg11 hc0 x0 x1 x2 x3 x4 x5 y
      = ∑ k : Fin 6144, x1 (ix2 (y 0) k) * WGT x2 x3 x4 k (y 1) := by
  rw [out1_A_7, View.read_writes_junk_eq_canon]
  delta kernelRun1_A
  dsimp only
  simp only [codes_word, weights_word]
  frame_out
  pointwise [k1_pay3, k1_pay4, k1_pay2]

/-- The draft product over weights kept from the point before. -/
theorem ydB_at (hc0 : ¬cond1_0 i) (xs0 : Vec Ideal S6144x1024 .bf16) (y : S512x1024.Idx) :
    out1_B_6 c i arg2 harg2 arg3 harg3 arg4 harg4 arg5 harg5 arg6 harg6 arg7 harg7 arg8 harg8 arg9 harg9 arg10 harg10 arg11 harg11 hc0 x0 x1 x2 x3 x4 x5 xs0 y
      = (∑ k : Fin 6144, FloatOps.sitofp (F := Ideal) .bf16 (x0 (ix2 (y 0) k)) * xs0 (ix2 k (y 1))) * x5 (ix2 (y 0) 0) := by
  rw [out1_B_6]
  frame_out
  pointwise [k1_pay3, k1_pay4, k1_pay2]

/-- The verify product over weights kept from the point before. -/
theorem yvB_at (hc0 : ¬cond1_0 i) (xs0 : Vec Ideal S6144x1024 .bf16) (y : S512x1024.Idx) :
    out1_B_7 c i arg2 harg2 arg3 harg3 arg4 harg4 arg5 harg5 arg6 harg6 arg7 harg7 arg8 harg8 arg9 harg9 arg10 harg10 arg11 harg11 hc0 x0 x1 x2 x3 x4 x5 xs0 y
      = ∑ k : Fin 6144, x1 (ix2 (y 0) k) * xs0 (ix2 k (y 1)) := by
  rw [out1_B_7]
  frame_out
  pointwise [k1_pay3, k1_pay4, k1_pay2]

end
end Cert.KernelIdeal.Run
end
-- ==== Proof.KernelIdeal.MatmulArrays.lean ====
/- The two product arrays the second call leaves, each element in terms of the arrays it reads. -/
module
public import proofs.«01_k».proof.Proof.KernelIdeal.MatmulTiles
@[expose] public section
set_option maxRecDepth 16384
noncomputable section
namespace Cert.KernelIdeal.Run
open Cert.KernelIdeal Cert.KernelIdeal.Gen Idealize.ShloMosaic Idealize.ShloMosaic.TcCoe Idealize.SL.Sem

/-- Row `k` of the whole packed array, opened: the low nibble on even rows, the high nibble on odd ones. -/
def GNIB (w : IVec S3072x16384 8) (k : Fin 6144) (n : Fin 16384) : BitVec 32 :=
  if k.val % 2 < 1 then IntOp.andi (BitVec.setWidth 32 (w (ix2 ⟨k.val / 2, by omega⟩ n))) 15#32
  else IntOp.shrsi ArithUnit.vector (BitVec.setWidth 32 (w (ix2 ⟨k.val / 2, by omega⟩ n))) 4#32

/-- A decoded weight of the whole array. -/
def GWGT (w : IVec S3072x16384 8) (s z : FVec Ideal S48x16384 .f32) (k : Fin 6144) (n : Fin 16384) : EReal :=
  (FloatOps.sitofp (F := Ideal) .bf16 (GNIB w k n) - z (ix2 ⟨k.val / 128, by omega⟩ n)) * s (ix2 ⟨k.val / 128, by omega⟩ n)

/-- A decoded weight of a block of columns is the whole array's at the column's place. -/
theorem WGT_col {w : IVec S3072x1024 8} {s z : FVec Ideal S48x1024 .f32} {W : IVec S3072x16384 8} {S Z : FVec Ideal S48x16384 .f32}
    (k : Fin 6144) (n : Fin 1024) (N : Fin 16384) (hw : ∀ r, w (ix2 r n) = W (ix2 r N)) (hs : ∀ r, s (ix2 r n) = S (ix2 r N))
    (hz : ∀ r, z (ix2 r n) = Z (ix2 r N)) : WGT w s z k n = GWGT W S Z k N := by
  unfold WGT GWGT NIB GNIB
  rw [hw, hs, hz]

variable (V : (c : Dev nD) → (b : Ref sig .tc) → Buf (Elt Ideal) ((c : Thread nD τ).loc b))

theorem idx1 : ∀ t : Fin cfg1.N, win1_0.index t = ![t.val % 6, 0] ∧ win1_1.index t = ![t.val % 6, 0] ∧ win1_2.index t = ![0, t.val / 6]
    ∧ win1_3.index t = ![0, t.val / 6] ∧ win1_4.index t = ![0, t.val / 6] ∧ win1_5.index t = ![t.val % 6, 0]
    ∧ win1_6.index t = ![t.val % 6, t.val / 6] ∧ win1_7.index t = ![t.val % 6, t.val / 6] :=
  (by decide +kernel : ∀ t : Fin grid1.N, _)

theorem pt1_lt (t : Fin cfg1.N) : t.val < 96 := lt_of_lt_of_eq t.isLt (show cfg1.N = 96 from N_1)
theorem col1_lt (t : Fin cfg1.N) (n : Fin 1024) : t.val / 6 * 1024 + n.val < 16384 := by have := pt1_lt t; omega
theorem row1_lt (t : Fin cfg1.N) (r : Fin 512) : t.val % 6 * 512 + r.val < 3072 := by omega
/-- The column of the whole array under column `n` of point `t`'s block, -/
abbrev col1 (t : Fin cfg1.N) (n : Fin 1024) : Fin 16384 := ⟨t.val / 6 * 1024 + n.val, col1_lt t n⟩
/-- and the row. -/
abbrev row1 (t : Fin cfg1.N) (r : Fin 512) : Fin 3072 := ⟨t.val % 6 * 512 + r.val, row1_lt t r⟩

theorem codes1_at (c : Dev nD) (t : Fin cfg1.N) (r : Fin 512) (n : Fin 6144) :
    iblk1 V c 0 t (ix2 r n) = (V c main_v16_0 : IVec S3072x6144 8) (ix2 (row1 t r) n) := by
  obtain ⟨e0, e1, e2, e3, e4, e5, e6, e7⟩ := idx1 t
  blk_ext [iblk1, e0]
theorem vrot1_at (c : Dev nD) (t : Fin cfg1.N) (r : Fin 512) (n : Fin 6144) :
    iblk1 V c 1 t (ix2 r n) = (V c main_v16_3 : FVec Ideal S3072x6144 .bf16) (ix2 (row1 t r) n) := by
  obtain ⟨e0, e1, e2, e3, e4, e5, e6, e7⟩ := idx1 t
  blk_ext [iblk1, e1]
theorem wq1_at (c : Dev nD) (t : Fin cfg1.N) (r : Fin 3072) (n : Fin 1024) :
    iblk1 V c 2 t (ix2 r n) = (V c main_arg2 : IVec S3072x16384 8) (ix2 r (col1 t n)) := by
  obtain ⟨e0, e1, e2, e3, e4, e5, e6, e7⟩ := idx1 t
  blk_ext [iblk1, e2]
theorem ws1_at (c : Dev nD) (t : Fin cfg1.N) (r : Fin 48) (n : Fin 1024) :
    iblk1 V c 3 t (ix2 r n) = (V c main_arg3 : FVec Ideal S48x16384 .f32) (ix2 r (col1 t n)) := by
  obtain ⟨e0, e1, e2, e3, e4, e5, e6, e7⟩ := idx1 t
  blk_ext [iblk1, e3]
theorem wz1_at (c : Dev nD) (t : Fin cfg1.N) (r : Fin 48) (n : Fin 1024) :
    iblk1 V c 4 t (ix2 r n) = (V c main_arg4 : FVec Ideal S48x16384 .f32) (ix2 r (col1 t n)) := by
  obtain ⟨e0, e1, e2, e3, e4, e5, e6, e7⟩ := idx1 t
  blk_ext [iblk1, e4]
theorem scol1_at (c : Dev nD) (t : Fin cfg1.N) (r : Fin 512) (n : Fin 128) :
    iblk1 V c 5 t (ix2 r n) = (V c main_v16_2 : FVec Ideal S3072x128 .f32) (ix2 (row1 t r) n) := by
  obtain ⟨e0, e1, e2, e3, e4, e5, e6, e7⟩ := idx1 t
  blk_ext [iblk1, e5]

/-- The whole array's decoded weights. -/
abbrev GW (c : Dev nD) (k : Fin 6144) (n : Fin 16384) : EReal := GWGT (V c main_arg2) (V c main_arg3) (V c main_arg4) k n

theorem wgt1_at (c : Dev nD) (t : Fin cfg1.N) (k : Fin 6144) (n : Fin 1024) :
    WGT (iblk1 V c 2 t) (iblk1 V c 3 t) (iblk1 V c 4 t) k n = GW V c k (col1 t n) :=
  WGT_col k n _ (fun r => wq1_at V c t r n) (fun r => ws1_at V c t r n) (fun r => wz1_at V c t r n)

/-- The decoded weights at a point that decodes them, -/
theorem carried_A (c : Dev nD) (t : Fin cfg1.N) (h0 : t.val % 6 = 0) (y : S6144x1024.Idx) :
    (outsAt1 V c t.val t.isLt).2.2 y = GW V c (y 0) (col1 t (y 1)) := by
  rw [outsAt1_A V c t h0]
  refine Eq.trans ?_ (wgt1_at V c t (y 0) (y 1))
  dsimp only
  apply weights_at
/-- and at a point that keeps them. -/
theorem carried_B (c : Dev nD) (t : Fin cfg1.N) (h0 : ¬t.val % 6 = 0) :
    (outsAt1 V c t.val t.isLt).2.2 = (outsAt1 V c (t.val - 1) (Nat.lt_of_le_of_lt (Nat.sub_le _ _) t.isLt)).2.2 := by
  rw [outsAt1_B V c t h0]
  rfl

/-- At every point the decoded weights are those of the point's columns. -/
theorem carried (c : Dev nD) : ∀ (n : ℕ) (hn : n < cfg1.N) (y : S6144x1024.Idx), (outsAt1 V c n hn).2.2 y = GW V c (y 0) (col1 ⟨n, hn⟩ (y 1))
  | 0, hn, y => carried_A V c ⟨0, hn⟩ rfl y
  | n + 1, hn, y => by
    by_cases h0 : (n + 1) % 6 = 0
    · exact carried_A V c ⟨n + 1, hn⟩ h0 y
    · refine (congrFun (carried_B V c ⟨n + 1, hn⟩ h0) y).trans ?_
      refine (carried c n (Nat.lt_of_succ_lt hn) y).trans ?_
      refine congrArg (GW V c (y 0)) (Fin.ext ?_)
      show n / 6 * 1024 + (y 1).val = (n + 1) / 6 * 1024 + (y 1).val
      have : n / 6 = (n + 1) / 6 := by omega
      rw [this]

/-- Element `(r, n)` of the draft product, -/
def GYD (C : IVec S3072x6144 8) (S : FVec Ideal S3072x128 .f32) (w : Fin 6144 → Fin 16384 → EReal) (r : Fin 3072) (n : Fin 16384) : EReal :=
  (∑ k : Fin 6144, FloatOps.sitofp (F := Ideal) .bf16 (C (ix2 r k)) * w k n) * S (ix2 r 0)
/-- and of the verify product. -/
def GYV (X : FVec Ideal S3072x6144 .bf16) (w : Fin 6144 → Fin 16384 → EReal) (r : Fin 3072) (n : Fin 16384) : EReal :=
  ∑ k : Fin 6144, X (ix2 r k) * w k n

theorem yd_row {x0 : IVec S512x6144 8} {x5 : FVec Ideal S512x128 .f32} {w : Fin 6144 → EReal} {C : IVec S3072x6144 8} {S : FVec Ideal S3072x128 .f32}
    {W : Fin 6144 → Fin 16384 → EReal} (r0 : Fin 512) (r : Fin 3072) (n : Fin 16384) (hx : ∀ k, x0 (ix2 r0 k) = C (ix2 r k))
    (hs : x5 (ix2 r0 0) = S (ix2 r 0)) (hw : ∀ k, w k = W k n) :
    (∑ k : Fin 6144, FloatOps.sitofp (F := Ideal) .bf16 (x0 (ix2 r0 k)) * w k) * x5 (ix2 r0 0) = GYD C S W r n := by
  unfold GYD
  rw [hs]
  exact congrArg (· * _) (Finset.sum_congr rfl fun k _ => by rw [hx, hw])
theorem yv_row {x1 : FVec Ideal S512x6144 .bf16} {w : Fin 6144 → EReal} {X : FVec Ideal S3072x6144 .bf16}
    {W : Fin 6144 → Fin 16384 → EReal} (r0 : Fin 512) (r : Fin 3072) (n : Fin 16384) (hx : ∀ k, x1 (ix2 r0 k) = X (ix2 r k))
    (hw : ∀ k, w k = W k n) : (∑ k : Fin 6144, x1 (ix2 r0 k) * w k) = GYV X W r n := by
  unfold GYV
  exact Finset.sum_congr rfl fun k _ => by rw [hx, hw]

/-- The draft product a point leaves. -/
theorem outs1_6 (c : Dev nD) (t : Fin cfg1.N) (y : S512x1024.Idx) :
    (outsAt1 V c t.val t.isLt).1 y = GYD (V c main_v16_0) (V c main_v16_2) (GW V c) (row1 t (y 0)) (col1 t (y 1)) := by
  by_cases h0 : t.val % 6 = 0
  · refine Eq.trans ?_ (yd_row (y 0) _ _ (fun k => codes1_at V c t (y 0) k) (scol1_at V c t (y 0) 0) (fun k => wgt1_at V c t k (y 1)))
    rw [outsAt1_A V c t h0]
    dsimp only
    apply ydA_at
  · have hc : ∀ k : Fin 6144, (outsAt1 V c (t.val - 1) (Nat.lt_of_le_of_lt (Nat.sub_le _ _) t.isLt)).2.2 (ix2 k (y 1)) = GW V c k (col1 t (y 1)) := fun k =>
      (congrFun (carried_B V c t h0) (ix2 k (y 1))).symm.trans (carried V c t.val t.isLt (ix2 k (y 1)))
    refine Eq.trans ?_ (yd_row (y 0) _ _ (fun k => codes1_at V c t (y 0) k) (scol1_at V c t (y 0) 0) hc)
    rw [outsAt1_B V c t h0]
    dsimp only
    apply ydB_at
/-- The verify product a point leaves. -/
theorem outs1_7 (c : Dev nD) (t : Fin cfg1.N) (y : S512x1024.Idx) :
    (outsAt1 V c t.val t.isLt).2.1 y = GYV (V c main_v16_3) (GW V c) (row1 t (y 0)) (col1 t (y 1)) := by
  by_cases h0 : t.val % 6 = 0
  · refine Eq.trans ?_ (yv_row (y 0) _ _ (fun k => vrot1_at V c t (y 0) k) (fun k => wgt1_at V c t k (y 1)))
    rw [outsAt1_A V c t h0]
    dsimp only
    apply yvA_at
  · have hc : ∀ k : Fin 6144, (outsAt1 V c (t.val - 1) (Nat.lt_of_le_of_lt (Nat.sub_le _ _) t.isLt)).2.2 (ix2 k (y 1)) = GW V c k (col1 t (y 1)) := fun k =>
      (congrFun (carried_B V c t h0) (ix2 k (y 1))).symm.trans (carried V c t.val t.isLt (ix2 k (y 1)))
    refine Eq.trans ?_ (yv_row (y 0) _ _ (fun k => vrot1_at V c t (y 0) k) hc)
    rw [outsAt1_B V c t h0]
    dsimp only
    apply yvB_at

/-- The draft product. -/
theorem yd_arr (c : Dev nD) : (dat1 V c).arrAt 6 cfg1.N
    = fun i : S3072x16384.Idx => GYD (V c main_v16_0) (V c main_v16_2) (GW V c) (i 0) (i 1) := by
  refine (dat1 V c).arrAt_eq_of_covers 6 _ (by decide +kernel) fun t hf y => ?_
  blk_simp
  rw [after1_6]
  refine (outs1_6 V c t y).trans ?_
  obtain ⟨e0, e1, e2, e3, e4, e5, e6, e7⟩ := idx1 t
  refine congrArg₂ (GYD _ _ _) (Fin.ext ?_) (Fin.ext ?_)
  · blk_simp [e6]
  · blk_simp [e6]
/-- The verify product. -/
theorem yv_arr (c : Dev nD) : (dat1 V c).arrAt 7 cfg1.N
    = fun i : S3072x16384.Idx => GYV (V c main_v16_3) (GW V c) (i 0) (i 1) := by
  refine (dat1 V c).arrAt_eq_of_covers 7 _ (by decide +kernel) fun t hf y => ?_
  blk_simp
  rw [after1_7]
  refine (outs1_7 V c t y).trans ?_
  obtain ⟨e0, e1, e2, e3, e4, e5, e6, e7⟩ := idx1 t
  refine congrArg₂ (GYV _ _) (Fin.ext ?_) (Fin.ext ?_)
  · blk_simp [e7]
  · blk_simp [e7]
end Cert.KernelIdeal.Run
end
-- ==== Proof.RefDefs.lean ====
/- The reference's results as terms over its arguments. -/
module
public import proofs.«01_k».proof.Proof.Reference
@[expose] public section
set_option maxRecDepth 16384
noncomputable section
namespace Cert.Proof.Ref
open Idealize.ShloMosaic Idealize.SL.Sem
open Cert.ReferenceIdeal Cert.ReferenceIdeal.Gen

/-- The signs of order two. -/
def C0 : FVec Ideal S2x2 .f32 := fun i => FloatOps.ofBits .f32 (lit0 (S2x2.rowMajor i))
/-- A Kronecker product with a matrix of order two, of order 4. -/
def KR4 (a : FVec Ideal S2x2 .f32) (b : FVec Ideal S2x2 .f32) : FVec Ideal S4x4 .f32 :=
  shapeCast S4x4 (mulf (broadcastInDim S2x2x2x2 ![0, 1, 2, 3] bcast_S2x1x2x1_S2x2x2x2_0_1_2_3
    (broadcastInDim S2x1x2x1 ![0, 2] bcast_S2x2_S2x1x2x1_0_2 a)) (broadcastInDim S2x2x2x2 ![0, 1, 2, 3] bcast_S1x2x1x2_S2x2x2x2_0_1_2_3
    (broadcastInDim S1x2x1x2 ![1, 3] bcast_S2x2_S1x2x1x2_1_3 b))) shapeCasts_S2x2x2x2_S4x4
/-- A Kronecker product with a matrix of order two, of order 8. -/
def KR8 (a : FVec Ideal S4x4 .f32) (b : FVec Ideal S2x2 .f32) : FVec Ideal S8x8 .f32 :=
  shapeCast S8x8 (mulf (broadcastInDim S4x2x4x2 ![0, 1, 2, 3] bcast_S4x1x4x1_S4x2x4x2_0_1_2_3
    (broadcastInDim S4x1x4x1 ![0, 2] bcast_S4x4_S4x1x4x1_0_2 a)) (broadcastInDim S4x2x4x2 ![0, 1, 2, 3] bcast_S1x2x1x2_S4x2x4x2_0_1_2_3
    (broadcastInDim S1x2x1x2 ![1, 3] bcast_S2x2_S1x2x1x2_1_3 b))) shapeCasts_S4x2x4x2_S8x8
/-- A Kronecker product with a matrix of order two, of order 16. -/
def KR16 (a : FVec Ideal S8x8 .f32) (b : FVec Ideal S2x2 .f32) : FVec Ideal S16x16 .f32 :=
  shapeCast S16x16 (mulf (broadcastInDim S8x2x8x2 ![0, 1, 2, 3] bcast_S8x1x8x1_S8x2x8x2_0_1_2_3
    (broadcastInDim S8x1x8x1 ![0, 2] bcast_S8x8_S8x1x8x1_0_2 a)) (broadcastInDim S8x2x8x2 ![0, 1, 2, 3] bcast_S1x2x1x2_S8x2x8x2_0_1_2_3
    (broadcastInDim S1x2x1x2 ![1, 3] bcast_S2x2_S1x2x1x2_1_3 b))) shapeCasts_S8x2x8x2_S16x16
/-- A Kronecker product with a matrix of order two, of order 32. -/
def KR32 (a : FVec Ideal S16x16 .f32) (b : FVec Ideal S2x2 .f32) : FVec Ideal S32x32 .f32 :=
  shapeCast S32x32 (mulf (broadcastInDim S16x2x16x2 ![0, 1, 2, 3] bcast_S16x1x16x1_S16x2x16x2_0_1_2_3
    (broadcastInDim S16x1x16x1 ![0, 2] bcast_S16x16_S16x1x16x1_0_2 a)) (broadcastInDim S16x2x16x2 ![0, 1, 2, 3] bcast_S1x2x1x2_S16x2x16x2_0_1_2_3
    (broadcastInDim S1x2x1x2 ![1, 3] bcast_S2x2_S1x2x1x2_1_3 b))) shapeCasts_S16x2x16x2_S32x32
/-- A Kronecker product with a matrix of order two, of order 64. -/
def KR64 (a : FVec Ideal S32x32 .f32) (b : FVec Ideal S2x2 .f32) : FVec Ideal S64x64 .f32 :=
  shapeCast S64x64 (mulf (broadcastInDim S32x2x32x2 ![0, 1, 2, 3] bcast_S32x1x32x1_S32x2x32x2_0_1_2_3
    (broadcastInDim S32x1x32x1 ![0, 2] bcast_S32x32_S32x1x32x1_0_2 a)) (broadcastInDim S32x2x32x2 ![0, 1, 2, 3] bcast_S1x2x1x2_S32x2x32x2_0_1_2_3
    (broadcastInDim S1x2x1x2 ![1, 3] bcast_S2x2_S1x2x1x2_1_3 b))) shapeCasts_S32x2x32x2_S64x64
/-- A Kronecker product with a matrix of order two, of order 128. -/
def KR128 (a : FVec Ideal S64x64 .f32) (b : FVec Ideal S2x2 .f32) : FVec Ideal S128x128 .f32 :=
  shapeCast S128x128 (mulf (broadcastInDim S64x2x64x2 ![0, 1, 2, 3] bcast_S64x1x64x1_S64x2x64x2_0_1_2_3
    (broadcastInDim S64x1x64x1 ![0, 2] bcast_S64x64_S64x1x64x1_0_2 a)) (broadcastInDim S64x2x64x2 ![0, 1, 2, 3] bcast_S1x2x1x2_S64x2x64x2_0_1_2_3
    (broadcastInDim S1x2x1x2 ![1, 3] bcast_S2x2_S1x2x1x2_1_3 b))) shapeCasts_S64x2x64x2_S128x128
/-- The signs of order 128. -/
def SGN : FVec Ideal S128x128 .f32 := KR128 (KR64 (KR32 (KR16 (KR8 (KR4 C0 C0) C0) C0) C0) C0) C0

/-- The Hadamard matrix: the signs times the factor. -/
def HAD (s : FVec Ideal S128x128 .f32) : FVec Ideal S128x128 .f32 :=
  mulf s (broadcastInDim S128x128 ![] bcast_S_S128x128 (constant S_ .f32 0x3DB504F3#32))

/-- The rows in groups of 128. -/
def GRP (x : FVec Ideal S3x1024x6144 .bf16) : FVec Ideal S3x1024x48x128 .f32 :=
  shapeCast S3x1024x48x128 (extf .f32 x bitsLt_bf16_f32) shapeCasts_S3x1024x6144_S3x1024x48x128

/-- The rotated rows, -/
def RROT (x : FVec Ideal S3x1024x6144 .bf16) (h : FVec Ideal S128x128 .f32) : FVec Ideal S3x1024x6144 .f32 :=
  shapeCast S3x1024x6144 (Host.dotGeneral dot_S3x1024x48x128_S128x128_S3x1024x48x128_3_0_012_1_n_n (some .fp32) (GRP x) h)
    shapeCasts_S3x1024x48x128_S3x1024x6144
/-- their even columns, -/
def REVEN (x : FVec Ideal S3x1024x6144 .bf16) (h : FVec Ideal S128x128 .f32) : FVec Ideal S3x1024x3072 .f32 :=
  shapeCast S3x1024x3072 (Host.dotGeneral dot_S3x1024x48x128_S128x64_S3x1024x48x64_3_0_012_1_n_n (some .fp32) (GRP x)
    (Host.slice S128x64 ![0, 0] ![1, 2] h slicesBy_S128x128_S128x64_0s1_0s2)) shapeCasts_S3x1024x48x64_S3x1024x3072
/-- their odd columns. -/
def RODD (x : FVec Ideal S3x1024x6144 .bf16) (h : FVec Ideal S128x128 .f32) : FVec Ideal S3x1024x3072 .f32 :=
  shapeCast S3x1024x3072 (Host.dotGeneral dot_S3x1024x48x128_S128x64_S3x1024x48x64_3_0_012_1_n_n (some .fp32) (GRP x)
    (Host.slice S128x64 ![0, 1] ![1, 2] h slicesBy_S128x128_S128x64_0s1_1s2)) shapeCasts_S3x1024x48x64_S3x1024x3072

/-- The rows' largest absolute values, -/
def RAMX (r : FVec Ideal S3x1024x6144 .f32) : FVec Ideal S3x1024 .f32 :=
  Host.reduce FloatOps.maximumf (Host.absf r) (constant S_ .f32 0xFF800000#32) reducesTo_S3x1024x6144_S3x1024_d2 h_S_
/-- and scales. -/
def RSCL (a : FVec Ideal S3x1024 .f32) : FVec Ideal S3x1024 .f32 :=
  select (cmpf .oeq a (broadcastInDim S3x1024 ![] bcast_S_S3x1024 (constant S_ .f32 0x00000000#32)))
    (broadcastInDim S3x1024 ![] bcast_S_S3x1024 (id (constant S_ .f32 0x3F800000#32)))
    (Host.divf a (broadcastInDim S3x1024 ![] bcast_S_S3x1024 (constant S_ .f32 0x40E00000#32)))

/-- The codes of the rotated rows. -/
def RCODE (r : FVec Ideal S3x1024x6144 .f32) (s : FVec Ideal S3x1024 .f32) : IVec S3x1024x6144 8 :=
  trunci 8 (fptosi 32 (minimumf (broadcastInDim S3x1024x6144 ![] bcast_S_S3x1024x6144 (id (constant S_ .f32 0x40E00000#32)))
    (maximumf (broadcastInDim S3x1024x6144 ![] bcast_S_S3x1024x6144 (id (constant S_ .f32 0xC0E00000#32)))
      (Host.roundeven (Host.divf r (broadcastInDim S3x1024x6144 ![0, 1, 2] bcast_S3x1024x1_S3x1024x6144_0_1_2
        (broadcastInDim S3x1024x1 ![0, 1] bcast_S3x1024_S3x1024x1_0_1 s))))))) natLt_8_32

/-- The codes of half the columns, as values. -/
def RHALF (r : FVec Ideal S3x1024x3072 .f32) (s : FVec Ideal S3x1024 .f32) : FVec Ideal S3x1024x3072 .bf16 :=
  truncf .bf16 (sitofp .f32 (extsi 32 (trunci 8 (fptosi 32 (minimumf (broadcastInDim S3x1024x3072 ![] bcast_S_S3x1024x3072 (id (constant S_ .f32 0x40E00000#32)))
    (maximumf (broadcastInDim S3x1024x3072 ![] bcast_S_S3x1024x3072 (id (constant S_ .f32 0xC0E00000#32)))
      (Host.roundeven (Host.divf r (broadcastInDim S3x1024x3072 ![0, 1, 2] bcast_S3x1024x1_S3x1024x3072_0_1_2
        (broadcastInDim S3x1024x1 ![0, 1] bcast_S3x1024_S3x1024x1_0_1 s))))))) natLt_8_32) natLt_8_32)) bitsLt_bf16_f32

/-- The low nibbles, -/
def RLO (w : IVec S3072x16384 8) : IVec S3072x16384 32 :=
  andi (extui 32 w natLt_8_32) (broadcastInDim S3072x16384 ![] bcast_S_S3072x16384 (constantI S_ 32 15#32))
/-- the high nibbles, -/
def RHI (w : IVec S3072x16384 8) : IVec S3072x16384 32 :=
  Host.shrsi (extui 32 w natLt_8_32) (broadcastInDim S3072x16384 ![] bcast_S_S3072x16384 (constantI S_ 32 4#32))
/-- and the weights they stand for. -/
def RWGT (n : IVec S3072x16384 32) (s z : FVec Ideal S48x16384 .f32) : FVec Ideal S3072x16384 .bf16 :=
  shapeCast S3072x16384 (mulf (subf (shapeCast S48x64x16384 (truncf .bf16 (sitofp .f32 n : FVec Ideal S3072x16384 .f32) bitsLt_bf16_f32) shapeCasts_S3072x16384_S48x64x16384)
      (broadcastInDim S48x64x16384 ![0, 1, 2] bcast_S48x1x16384_S48x64x16384_0_1_2
        (broadcastInDim S48x1x16384 ![0, 2] bcast_S48x16384_S48x1x16384_0_2 (truncf .bf16 z bitsLt_bf16_f32))))
      (broadcastInDim S48x64x16384 ![0, 1, 2] bcast_S48x1x16384_S48x64x16384_0_1_2
        (broadcastInDim S48x1x16384 ![0, 2] bcast_S48x16384_S48x1x16384_0_2 (truncf .bf16 s bitsLt_bf16_f32))))
    shapeCasts_S48x64x16384_S3072x16384

/-- The two half products, added. -/
def RACC (e o : FVec Ideal S3x1024x3072 .bf16) (lo hi : FVec Ideal S3072x16384 .bf16) : FVec Ideal S3x1024x16384 .f32 :=
  addf (Host.dotGeneral dot_S3x1024x3072_S3072x16384_S3x1024x16384_2_0_01_1_n_n none e lo)
    (Host.dotGeneral dot_S3x1024x3072_S3072x16384_S3x1024x16384_2_0_01_1_n_n none o hi)
/-- The draft product, scaled back, -/
def RYD (acc : FVec Ideal S3x1024x16384 .f32) (s : FVec Ideal S3x1024 .f32) : FVec Ideal S3x1024x16384 .bf16 :=
  truncf .bf16 (mulf acc (broadcastInDim S3x1024x16384 ![0, 1, 2] bcast_S3x1024x1_S3x1024x16384_0_1_2
    (broadcastInDim S3x1024x1 ![0, 1] bcast_S3x1024_S3x1024x1_0_1 s))) bitsLt_bf16_f32

/-- The four results. -/
def scale (x : FVec Ideal S3x1024x6144 .bf16) : FVec Ideal S3x1024 .f32 := RSCL (RAMX (RROT x (HAD SGN)))
def codes (x : FVec Ideal S3x1024x6144 .bf16) : IVec S3x1024x6144 8 := RCODE (RROT x (HAD SGN)) (scale x)
def yDraft (x : FVec Ideal S3x1024x6144 .bf16) (w : IVec S3072x16384 8) (s z : FVec Ideal S48x16384 .f32) : FVec Ideal S3x1024x16384 .bf16 :=
  RYD (RACC (RHALF (REVEN x (HAD SGN)) (scale x)) (RHALF (RODD x (HAD SGN)) (scale x)) (RWGT (RLO w) s z) (RWGT (RHI w) s z)) (scale x)
def yVerify (x : FVec Ideal S3x1024x6144 .bf16) (w : IVec S3072x16384 8) (s z : FVec Ideal S48x16384 .f32) : FVec Ideal S3x1024x16384 .bf16 :=
  truncf .bf16 (RACC (truncf .bf16 (REVEN x (HAD SGN)) bitsLt_bf16_f32) (truncf .bf16 (RODD x (HAD SGN)) bitsLt_bf16_f32)
    (RWGT (RLO w) s z) (RWGT (RHI w) s z)) bitsLt_bf16_f32

end Cert.Proof.Ref
end
-- ==== Proof.KernelIdeal.Host.lean ====
/- What the host's stretches before, between and after the two calls hold. -/
module
public import proofs.«01_k».proof.Proof.KernelIdeal.Run
public import proofs.«01_k».proof.Proof.KernelIdeal.RotateArrays
public import proofs.«01_k».proof.Proof.KernelIdeal.MatmulArrays
public import proofs.«01_k».proof.Proof.RefDefs
@[expose] public section
set_option maxRecDepth 16384
noncomputable section
namespace Cert.KernelIdeal.Run
open Cert.KernelIdeal Cert.KernelIdeal.Gen Idealize.ShloMosaic Idealize.ShloMosaic.TcCoe Idealize.SL.Sem
open Cert.Proof

variable (m : (ℓ : Loc nD τ sig) → Buf (Elt Ideal) ℓ) (ρ : Dev nD → PrngReg) (c : Dev nD)

theorem W1_cst : W1 m ρ c (Proc.devRef .tc main_cst) = Ref.C0 := by
  after_results_simp
  rfl
theorem W1_v0 : W1 m ρ c (Proc.devRef .tc main_v0) = shapeCast S3072x6144 (m ((c : Thread nD τ).loc main_arg0) : FVec Ideal S3x1024x6144 .bf16) shapeCasts_S3x1024x6144_S3072x6144 := by
  after_results_simp
  rfl
theorem W1_v1 : W1 m ρ c (Proc.devRef .tc main_v1) = shapeCast S3072x6144 (m ((c : Thread nD τ).loc main_arg1) : FVec Ideal S3x1024x6144 .bf16) shapeCasts_S3x1024x6144_S3072x6144 := by
  after_results_simp
  rfl
theorem W2_v2 : W2 m ρ c (Proc.devRef .tc main_v2) = Ref.KR4 (W1 m ρ c (Proc.devRef .tc main_cst)) (W1 m ρ c (Proc.devRef .tc main_cst)) := by
  show StableHlo.after hostOps0_1 (W1 m ρ c) _ = _
  generalize W1 m ρ c = V
  after_results_simp
  rfl
theorem W3_v3 : W3 m ρ c (Proc.devRef .tc main_v3) = Ref.KR8 (W2 m ρ c (Proc.devRef .tc main_v2)) (W2 m ρ c (Proc.devRef .tc main_cst)) := by
  show StableHlo.after hostOps0_2 (W2 m ρ c) _ = _
  generalize W2 m ρ c = V
  after_results_simp
  rfl
theorem W4_v4 : W4 m ρ c (Proc.devRef .tc main_v4) = Ref.KR16 (W3 m ρ c (Proc.devRef .tc main_v3)) (W3 m ρ c (Proc.devRef .tc main_cst)) := by
  show StableHlo.after hostOps0_3 (W3 m ρ c) _ = _
  generalize W3 m ρ c = V
  after_results_simp
  rfl
theorem W5_v5 : W5 m ρ c (Proc.devRef .tc main_v5) = Ref.KR32 (W4 m ρ c (Proc.devRef .tc main_v4)) (W4 m ρ c (Proc.devRef .tc main_cst)) := by
  show StableHlo.after hostOps0_4 (W4 m ρ c) _ = _
  generalize W4 m ρ c = V
  after_results_simp
  rfl
theorem W6_v6 : W6 m ρ c (Proc.devRef .tc main_v6) = Ref.KR64 (W5 m ρ c (Proc.devRef .tc main_v5)) (W5 m ρ c (Proc.devRef .tc main_cst)) := by
  show StableHlo.after hostOps0_5 (W5 m ρ c) _ = _
  generalize W5 m ρ c = V
  after_results_simp
  rfl
theorem W7_v7 : W7 m ρ c (Proc.devRef .tc main_v7) = Ref.KR128 (W6 m ρ c (Proc.devRef .tc main_v6)) (W6 m ρ c (Proc.devRef .tc main_cst)) := by
  show StableHlo.after hostOps0_6 (W6 m ρ c) _ = _
  generalize W6 m ρ c = V
  after_results_simp
  rfl
theorem W2_cst : W2 m ρ c (Proc.devRef .tc main_cst) = Ref.C0 := (W2_of m ρ c main_cst (by decide)).trans (W1_cst m ρ c)
theorem W3_cst : W3 m ρ c (Proc.devRef .tc main_cst) = Ref.C0 := (W3_of m ρ c main_cst (by decide)).trans (W2_cst m ρ c)
theorem W4_cst : W4 m ρ c (Proc.devRef .tc main_cst) = Ref.C0 := (W4_of m ρ c main_cst (by decide)).trans (W3_cst m ρ c)
theorem W5_cst : W5 m ρ c (Proc.devRef .tc main_cst) = Ref.C0 := (W5_of m ρ c main_cst (by decide)).trans (W4_cst m ρ c)
theorem W6_cst : W6 m ρ c (Proc.devRef .tc main_cst) = Ref.C0 := (W6_of m ρ c main_cst (by decide)).trans (W5_cst m ρ c)
/-- The kernel's signs are the reference's. -/
theorem W7_sgn : W7 m ρ c (Proc.devRef .tc main_v7) = Ref.SGN := by
  rw [W7_v7, W6_v6, W5_v5, W4_v4, W3_v3, W2_v2, W6_cst, W5_cst, W4_cst, W3_cst, W2_cst, W1_cst]
  rfl
/-- The identity matrix of order two. -/
def EYE : FVec Ideal S2x2 .f32 := uitofp .f32 (cmpi .eq (addi (iotaInDim S2x2 32 0) (broadcastInDim S2x2 ![] bcast_S_S2x2 (constantI S_ 32 0#32))) (iotaInDim S2x2 32 1))
theorem EYE_at (a b : Fin 2) : EYE (ix2 a b) = if a = b then 1 else 0 := by
  pointwise [EYE]
  have h : ∀ a b : Fin 2, IntOp.cmpi CmpIPredicate.eq (IntOp.addi (BitVec.ofNat 32 a.val) 0#32) (BitVec.ofNat 32 b.val) = if a = b then 1#1 else 0#1 := by decide
  rw [h]
  split
  · show ((1 : ℕ) : EReal) = 1
    simp
  · show ((0 : ℕ) : EReal) = 0
    simp
theorem W8_v13 : W8 m ρ c (Proc.devRef .tc main_v13) = EYE := by
  show StableHlo.after hostOps0_7 (W7 m ρ c) _ = _
  generalize W7 m ρ c = V
  after_results_simp
  rfl
/-- The block-diagonal matrix of two copies of `s`. -/
def BLK (e : FVec Ideal S2x2 .f32) (s : FVec Ideal S128x128 .f32) : FVec Ideal S256x256 .f32 :=
  shapeCast S256x256 (mulf (broadcastInDim S2x128x2x128 ![0, 1, 2, 3] bcast_S2x1x2x1_S2x128x2x128_0_1_2_3
    (broadcastInDim S2x1x2x1 ![0, 2] bcast_S2x2_S2x1x2x1_0_2 e)) (broadcastInDim S2x128x2x128 ![0, 1, 2, 3] bcast_S1x128x1x128_S2x128x2x128_0_1_2_3
    (broadcastInDim S1x128x1x128 ![1, 3] bcast_S128x128_S1x128x1x128_1_3 s))) shapeCasts_S2x128x2x128_S256x256
theorem BLK_at (e : FVec Ideal S2x2 .f32) (s : FVec Ideal S128x128 .f32) (k n : Fin 256) :
    BLK e s (ix2 k n) = e (ix2 ⟨k.val / 128, by omega⟩ ⟨n.val / 128, by omega⟩) * s (ix2 ⟨k.val % 128, by omega⟩ ⟨n.val % 128, by omega⟩) := by
  pointwise [BLK]
theorem W9_v14 : W9 m ρ c (Proc.devRef .tc main_v14) = BLK (W8 m ρ c (Proc.devRef .tc main_v13)) (W8 m ρ c (Proc.devRef .tc main_v7)) := by
  show StableHlo.after hostOps0_8 (W8 m ρ c) _ = _
  generalize W8 m ρ c = V
  after_results_simp
  rfl
theorem W10_v15 : W10 m ρ c (Proc.devRef .tc main_v15) = (W9 m ρ c (Proc.devRef .tc main_v14) : FVec Ideal S256x256 .f32) := by
  show StableHlo.after hostOps0_9 (W9 m ρ c) _ = _
  generalize W9 m ρ c = V
  after_results_simp
  rfl

/-! ### What the first call reads -/

theorem V10_v15 : V10 m ρ c main_v15 = BLK EYE Ref.SGN := by
  refine (W10_v15 m ρ c).trans ((W9_v14 m ρ c).trans ?_)
  rw [W8_v13, W8_of m ρ c main_v7 (by decide), W7_sgn]
theorem V10_of (r : Ref sig .tc) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) (h8 : r ∉ hostOps0_8_W) (h9 : r ∉ hostOps0_9_W) :
    V10 m ρ c r = W1 m ρ c (Proc.devRef .tc r) :=
  (W10_of m ρ c r h9).trans <| (W9_of m ρ c r h8).trans <| (W8_of m ρ c r h7).trans <| (W7_of m ρ c r h6).trans <|
    (W6_of m ρ c r h5).trans <| (W5_of m ρ c r h4).trans <| (W4_of m ρ c r h3).trans <| (W3_of m ρ c r h2).trans (W2_of m ρ c r h1)
/-- The draft rows, -/
abbrev XD : FVec Ideal S3072x6144 .bf16 := shapeCast S3072x6144 (m ((c : Thread nD τ).loc main_arg0) : FVec Ideal S3x1024x6144 .bf16) shapeCasts_S3x1024x6144_S3072x6144
/-- the verify rows -/
abbrev XV : FVec Ideal S3072x6144 .bf16 := shapeCast S3072x6144 (m ((c : Thread nD τ).loc main_arg1) : FVec Ideal S3x1024x6144 .bf16) shapeCasts_S3x1024x6144_S3072x6144
/-- and the rotation matrix. -/
abbrev HH : FVec Ideal S256x256 .f32 := BLK EYE Ref.SGN
theorem V10_v0 : V10 m ρ c main_v0 = XD m c :=
  (V10_of m ρ c main_v0 (by decide) (by decide) (by decide) (by decide) (by decide) (by decide) (by decide) (by decide) (by decide)).trans (W1_v0 m ρ c)
theorem V10_v1 : V10 m ρ c main_v1 = XV m c :=
  (V10_of m ρ c main_v1 (by decide) (by decide) (by decide) (by decide) (by decide) (by decide) (by decide) (by decide) (by decide)).trans (W1_v1 m ρ c)

/-! ### What the second call reads -/

theorem V11_codes : V11 m ρ c main_v16_0 = fun i : S3072x6144.Idx => GCODE (XD m c) HH (i 0) (i 1) := by
  have h := (W11_arr m ρ c 3).trans (codes_arr (V10 m ρ) c)
  rw [V10_v0, V10_v15] at h
  exact h
theorem V11_srow : V11 m ρ c main_v16_1 = fun i : S24x1x128.Idx => GSCL (XD m c) HH ⟨(i 0).val * 128 + (i 2).val, by have := (i 0).isLt; have := (i 2).isLt; simp at *; omega⟩ := by
  have h := (W11_arr m ρ c 4).trans (srow_arr (V10 m ρ) c)
  rw [V10_v0, V10_v15] at h
  exact h
theorem V11_scol : V11 m ρ c main_v16_2 = fun i : S3072x128.Idx => GSCL (XD m c) HH (i 0) := by
  have h := (W11_arr m ρ c 5).trans (scol_arr (V10 m ρ) c)
  rw [V10_v0, V10_v15] at h
  exact h
theorem V11_vrot : V11 m ρ c main_v16_3 = fun i : S3072x6144.Idx => GROT (XV m c) HH (i 0) (i 1) := by
  have h := (W11_arr m ρ c 6).trans (vrot_arr (V10 m ρ) c)
  rw [V10_v1, V10_v15] at h
  exact h
theorem V11_GW (k : Fin 6144) (n : Fin 16384) : GW (V11 m ρ) c k n
    = GWGT (m ((c : Thread nD τ).loc main_arg2)) (m ((c : Thread nD τ).loc main_arg3)) (m ((c : Thread nD τ).loc main_arg4)) k n := by
  have h2 : V11 m ρ c main_arg2 = m ((c : Thread nD τ).loc main_arg2) := W11_args m ρ c main_arg2 (by decide)
  have h3 : V11 m ρ c main_arg3 = m ((c : Thread nD τ).loc main_arg3) := W11_args m ρ c main_arg3 (by decide)
  have h4 : V11 m ρ c main_arg4 = m ((c : Thread nD τ).loc main_arg4) := W11_args m ρ c main_arg4 (by decide)
  unfold GW
  rw [h2, h3, h4]

/-! ### The four results -/

/-- The decoded weights of the launch's arguments. -/
abbrev KW (k : Fin 6144) (n : Fin 16384) : EReal :=
  GWGT (m ((c : Thread nD τ).loc main_arg2)) (m ((c : Thread nD τ).loc main_arg3)) (m ((c : Thread nD τ).loc main_arg4)) k n

theorem V12_yd : V12 m ρ c main_v17_0 = fun i : S3072x16384.Idx =>
    GYD (fun j : S3072x6144.Idx => GCODE (XD m c) HH (j 0) (j 1)) (fun j : S3072x128.Idx => GSCL (XD m c) HH (j 0)) (KW m c) (i 0) (i 1) := by
  have h := (W12_arr m ρ c 6).trans (yd_arr (V11 m ρ) c)
  rw [V11_codes, V11_scol, funext fun k => funext fun n => V11_GW m ρ c k n] at h
  exact h
theorem V12_yv : V12 m ρ c main_v17_1 = fun i : S3072x16384.Idx =>
    GYV (fun j : S3072x6144.Idx => GROT (XV m c) HH (j 0) (j 1)) (KW m c) (i 0) (i 1) := by
  have h := (W12_arr m ρ c 7).trans (yv_arr (V11 m ρ) c)
  rw [V11_vrot, funext fun k => funext fun n => V11_GW m ρ c k n] at h
  exact h
theorem V12_codes : V12 m ρ c main_v16_0 = fun i : S3072x6144.Idx => GCODE (XD m c) HH (i 0) (i 1) :=
  (W12_of m ρ c main_v16_0 (by decide +kernel)).trans (V11_codes m ρ c)
theorem V12_srow : V12 m ρ c main_v16_1 = fun i : S24x1x128.Idx => GSCL (XD m c) HH ⟨(i 0).val * 128 + (i 2).val, by have := (i 0).isLt; have := (i 2).isLt; simp at *; omega⟩ :=
  (W12_of m ρ c main_v16_1 (by decide +kernel)).trans (V11_srow m ρ c)

theorem W13_v18 : W13 m ρ c (Proc.devRef .tc main_v18) = shapeCast S3x1024x16384 (V12 m ρ c main_v17_0 : FVec Ideal S3072x16384 .bf16) shapeCasts_S3072x16384_S3x1024x16384 := by
  show StableHlo.after hostOps2 (W12 m ρ c) _ = _
  unfold V12
  generalize W12 m ρ c = V
  after_results_simp
  rfl
theorem W13_v19 : W13 m ρ c (Proc.devRef .tc main_v19) = shapeCast S3x1024x16384 (V12 m ρ c main_v17_1 : FVec Ideal S3072x16384 .bf16) shapeCasts_S3072x16384_S3x1024x16384 := by
  show StableHlo.after hostOps2 (W12 m ρ c) _ = _
  unfold V12
  generalize W12 m ρ c = V
  after_results_simp
  rfl
theorem W13_v20 : W13 m ρ c (Proc.devRef .tc main_v20) = shapeCast S3x1024x6144 (V12 m ρ c main_v16_0 : IVec S3072x6144 8) shapeCasts_S3072x6144_S3x1024x6144 := by
  show StableHlo.after hostOps2 (W12 m ρ c) _ = _
  unfold V12
  generalize W12 m ρ c = V
  after_results_simp
  rfl
theorem W13_v21 : W13 m ρ c (Proc.devRef .tc main_v21) = shapeCast S3x1024 (V12 m ρ c main_v16_1 : FVec Ideal S24x1x128 .f32) shapeCasts_S24x1x128_S3x1024 := by
  show StableHlo.after hostOps2 (W12 m ρ c) _ = _
  unfold V12
  generalize W12 m ρ c = V
  after_results_simp
  rfl
end Cert.KernelIdeal.Run
end
-- ==== Proof.RefPoints.lean ====
/- The reference's terms, element by element. -/
module
public import proofs.«01_k».proof.Proof.RefDefs
@[expose] public section
set_option maxRecDepth 16384
noncomputable section
namespace Cert.Proof.Ref
open Idealize.ShloMosaic Idealize.SL.Sem
open Cert.ReferenceIdeal Cert.ReferenceIdeal.Gen

theorem HAD_at (s : FVec Ideal S128x128 .f32) (k n : Fin 128) : HAD s (ix2 k n) = s (ix2 k n) * Ideal.ofBits .f32 0x3DB504F3#32 := by
  pointwise [HAD]

theorem RROT_at (x : FVec Ideal S3x1024x6144 .bf16) (h : FVec Ideal S128x128 .f32) (a : Fin 3) (b : Fin 1024) (n : Fin 6144) :
    RROT x h (ix3 a b n) = ∑ k : Fin 128, x (ix3 a b ⟨n.val / 128 * 128 + k.val, by omega⟩) * h (ix2 k ⟨n.val % 128, Nat.mod_lt _ (by decide)⟩) := by
  pointwise [RROT, GRP]
theorem REVEN_at (x : FVec Ideal S3x1024x6144 .bf16) (h : FVec Ideal S128x128 .f32) (a : Fin 3) (b : Fin 1024) (j : Fin 3072) :
    REVEN x h (ix3 a b j) = ∑ k : Fin 128, x (ix3 a b ⟨j.val / 64 * 128 + k.val, by omega⟩) * h (ix2 k ⟨2 * (j.val % 64), by omega⟩) := by
  pointwise [REVEN, GRP]
theorem RODD_at (x : FVec Ideal S3x1024x6144 .bf16) (h : FVec Ideal S128x128 .f32) (a : Fin 3) (b : Fin 1024) (j : Fin 3072) :
    RODD x h (ix3 a b j) = ∑ k : Fin 128, x (ix3 a b ⟨j.val / 64 * 128 + k.val, by omega⟩) * h (ix2 k ⟨1 + 2 * (j.val % 64), by omega⟩) := by
  pointwise [RODD, GRP]
theorem RAMX_at (r : FVec Ideal S3x1024x6144 .f32) (a : Fin 3) (b : Fin 1024) :
    RAMX r (ix2 a b) = Finset.fold max (Ideal.ofBits .f32 0xFF800000#32) (fun n : Fin 6144 => FloatOps.absf (F := Ideal) (φ := .f32) (r (ix3 a b n))) Finset.univ := by
  pointwise [RAMX]
theorem RSCL_at (r : FVec Ideal S3x1024 .f32) (i : S3x1024.Idx) :
    RSCL r i = if r i = 0 then 1 else Ideal.div (r i) (Ideal.ofBits .f32 0x40E00000#32) := by
  pointwise [RSCL]
  exact congrArg (fun o : EReal => if r i = 0 then o else Ideal.div (r i) (Ideal.ofBits .f32 0x40E00000#32)) Ideal.ofBits_one_f32
/-- A rounded quotient, clipped. -/
def CLIP (x s : EReal) : EReal := min (Ideal.ofBits .f32 0x40E00000#32) (max (Ideal.ofBits .f32 0xC0E00000#32)
    (Ideal.liftRound Ideal.roundHalfEven (Ideal.div x s)))
theorem RCODE_at (r : FVec Ideal S3x1024x6144 .f32) (s : FVec Ideal S3x1024 .f32) (a : Fin 3) (b : Fin 1024) (n : Fin 6144) :
    RCODE r s (ix3 a b n) = BitVec.setWidth 8 (Ideal.fptosi 32 (CLIP (r (ix3 a b n)) (s (ix2 a b)))) := by
  pointwise [RCODE, CLIP]
  rfl
theorem RHALF_at (r : FVec Ideal S3x1024x3072 .f32) (s : FVec Ideal S3x1024 .f32) (a : Fin 3) (b : Fin 1024) (n : Fin 3072) :
    RHALF r s (ix3 a b n) = FloatOps.sitofp (F := Ideal) .f32 (BitVec.signExtend 32 (BitVec.setWidth 8 (Ideal.fptosi 32 (CLIP (r (ix3 a b n)) (s (ix2 a b)))))) := by
  pointwise [RHALF, CLIP]
  rfl
theorem RLO_at (w : IVec S3072x16384 8) (r : Fin 3072) (n : Fin 16384) :
    RLO w (ix2 r n) = IntOp.andi (BitVec.setWidth 32 (w (ix2 r n))) 15#32 := by
  pointwise [RLO]
theorem RHI_at (w : IVec S3072x16384 8) (r : Fin 3072) (n : Fin 16384) :
    RHI w (ix2 r n) = IntOp.shrsi .host (BitVec.setWidth 32 (w (ix2 r n))) 4#32 := by
  pointwise [RHI]
theorem RWGT_at (q : IVec S3072x16384 32) (s z : FVec Ideal S48x16384 .f32) (r : Fin 3072) (n : Fin 16384) :
    RWGT q s z (ix2 r n) = (FloatOps.sitofp (F := Ideal) .f32 (q (ix2 r n)) - z (ix2 ⟨r.val / 64, by omega⟩ n)) * s (ix2 ⟨r.val / 64, by omega⟩ n) := by
  pointwise [RWGT]
theorem RACC_at (e o : FVec Ideal S3x1024x3072 .bf16) (lo hi : FVec Ideal S3072x16384 .bf16) (a : Fin 3) (b : Fin 1024) (n : Fin 16384) :
    RACC e o lo hi (ix3 a b n) = (∑ j : Fin 3072, e (ix3 a b j) * lo (ix2 j n)) + ∑ j : Fin 3072, o (ix3 a b j) * hi (ix2 j n) := by
  pointwise [RACC]
theorem RYD_at (acc : FVec Ideal S3x1024x16384 .f32) (s : FVec Ideal S3x1024 .f32) (a : Fin 3) (b : Fin 1024) (n : Fin 16384) :
    RYD acc s (ix3 a b n) = acc (ix3 a b n) * s (ix2 a b) := by
  pointwise [RYD]
end Cert.Proof.Ref
end
-- ==== Proof.Match.lean ====
/- The kernel's values and the reference's, element by element. -/
module
public import proofs.«01_k».proof.Proof.KernelIdeal.Host
public import proofs.«01_k».proof.Proof.RefPoints
@[expose] public section
set_option maxRecDepth 16384
noncomputable section
namespace Cert.Proof.Match
open Idealize.ShloMosaic Idealize.SL.Sem
open Cert.KernelIdeal.Run

/-! ### The constants -/

/-- The factor is a nonnegative real. -/
theorem fac_real : ∃ q : ℝ, 0 ≤ q ∧ Ideal.ofBits .f32 0x3DB504F3#32 = (q : EReal) := by
  refine ⟨(11863283 : ℝ) * 2 ^ (-27 : ℤ), by positivity, ?_⟩
  simp [Ideal.ofBits, Ideal.ieee, -EReal.coe_mul]
theorem seven : Ideal.ofBits .f32 0x40E00000#32 = ((7 : ℝ) : EReal) := by
  simp [Ideal.ofBits, Ideal.ieee, -EReal.coe_mul]; norm_num
theorem neg_seven : Ideal.ofBits .f32 0xC0E00000#32 = ((-7 : ℝ) : EReal) := by
  simp [Ideal.ofBits, Ideal.ieee, -EReal.coe_mul, -EReal.coe_neg]; norm_num

/-- A nonnegative real factor moves into a sum. -/
theorem sum_mul {ι : Type} (s : Finset ι) (f : ι → EReal) {q : EReal} (h0 : 0 ≤ q) (ht : q ≠ ⊤) :
    (∑ i ∈ s, f i) * q = ∑ i ∈ s, f i * q := by
  classical
  induction s using Finset.induction_on with
  | empty => simp
  | insert a s ha ih => rw [Finset.sum_insert ha, Finset.sum_insert ha, EReal.right_distrib_of_nonneg_of_ne_top h0 ht, ih]

/-! ### The rotation -/

/-- A row of the flat array is a row of the batch. -/
theorem row_at (x : FVec Ideal Cert.ReferenceIdeal.S3x1024x6144 .bf16) (r : Fin 3072) (n : Fin 6144) :
    (shapeCast Cert.KernelIdeal.S3072x6144 x Cert.KernelIdeal.Gen.shapeCasts_S3x1024x6144_S3072x6144 : FVec Ideal Cert.KernelIdeal.S3072x6144 .bf16) (ix2 r n)
      = x (ix3 ⟨r.val / 1024, by omega⟩ ⟨r.val % 1024, by omega⟩ n) := by
  pointwise

theorem blocks (X : Fin 256 → EReal) (S : Fin 128 → Fin 128 → EReal) (n : Fin 256) :
    (∑ k : Fin 256, X k * (EYE (ix2 ⟨k.val / 128, by omega⟩ ⟨n.val / 128, by omega⟩) * S ⟨k.val % 128, by omega⟩ ⟨n.val % 128, by omega⟩))
      = ∑ i : Fin 128, X ⟨n.val / 128 * 128 + i.val, by omega⟩ * S i ⟨n.val % 128, by omega⟩ := by
  rw [← Fin.sum_mul_add_fin (L := 256) 2 128 _ rfl]
  rw [Fin.sum_univ_two]
  have hk : ∀ (s : Fin 2) (i : Fin 128), (s.val * 128 + i.val) / 128 = s.val ∧ (s.val * 128 + i.val) % 128 = i.val := by intro s i; omega
  have e : ∀ s : Fin 2, (∑ k : Fin 128, X ⟨s.val * 128 + k.val, by omega⟩ * (EYE (ix2 ⟨(s.val * 128 + k.val) / 128, by omega⟩ ⟨n.val / 128, by omega⟩)
      * S ⟨(s.val * 128 + k.val) % 128, by omega⟩ ⟨n.val % 128, by omega⟩))
      = if s.val = n.val / 128 then ∑ i : Fin 128, X ⟨n.val / 128 * 128 + i.val, by omega⟩ * S i ⟨n.val % 128, by omega⟩ else 0 := by
    intro s
    split
    · rename_i hs
      refine Finset.sum_congr rfl fun k _ => ?_
      rw [EYE_at, if_pos (Fin.ext (by have := hk s k; simp only []; omega)), one_mul]
      congr 2
      · exact Fin.ext (by simp only []; omega)
      · exact Fin.ext (by simp only []; omega)
    · rename_i hs
      refine Finset.sum_eq_zero fun k _ => ?_
      rw [EYE_at, if_neg (fun h => hs (by have := hk s k; have h' := Fin.val_eq_of_eq h; simp only [] at h'; omega)), zero_mul, mul_zero]
  refine (congrArg₂ (· + ·) (e 0) (e 1)).trans ?_
  have hn : n.val / 128 = 0 ∨ n.val / 128 = 1 := by omega
  rcases hn with h | h <;> simp [h]

/-- A rotated element: the kernel's is the reference's. -/
theorem rot (x : FVec Ideal Cert.ReferenceIdeal.S3x1024x6144 .bf16) (r : Fin 3072) (n : Fin 6144) :
    GROT (shapeCast Cert.KernelIdeal.S3072x6144 x Cert.KernelIdeal.Gen.shapeCasts_S3x1024x6144_S3072x6144) HH r n
      = Ref.RROT x (Ref.HAD Ref.SGN) (ix3 ⟨r.val / 1024, by omega⟩ ⟨r.val % 1024, by omega⟩ n) := by
  obtain ⟨q, hq, eq⟩ := fac_real
  have hq0 : (0 : EReal) ≤ Ideal.ofBits .f32 0x3DB504F3#32 := by rw [eq]; exact EReal.coe_nonneg.mpr hq
  have hqt : Ideal.ofBits .f32 0x3DB504F3#32 ≠ ⊤ := by rw [eq]; exact EReal.coe_ne_top q
  rw [Ref.RROT_at]
  unfold GROT
  refine (congrArg (· * _) (Eq.trans (b := ∑ i : Fin 128, x (ix3 ⟨r.val / 1024, by omega⟩ ⟨r.val % 1024, by omega⟩ ⟨n.val / 128 * 128 + i.val, by omega⟩)
    * Ref.SGN (ix2 i ⟨n.val % 128, by omega⟩)) ?_ rfl)).trans ((sum_mul _ _ hq0 hqt).trans ?_)
  · refine Eq.trans ?_ ((blocks (fun k => x (ix3 ⟨r.val / 1024, by omega⟩ ⟨r.val % 1024, by omega⟩ ⟨n.val / 256 * 256 + k.val, by omega⟩))
      (fun i j => Ref.SGN (ix2 i j)) ⟨n.val % 256, by omega⟩).trans ?_)
    · refine Finset.sum_congr rfl fun k _ => ?_
      rw [row_at]
      exact congrArg (_ * ·) (BLK_at _ _ _ _)
    · refine Finset.sum_congr rfl fun i _ => ?_
      exact congrArg₂ (· * ·) (congrArg x (congrArg (ix3 _ _) (Fin.ext (by dsimp only; omega))))
        (congrArg Ref.SGN (congrArg (ix2 i) (Fin.ext (by dsimp only; omega))))
  · refine Finset.sum_congr rfl fun i _ => ?_
    rw [Ref.HAD_at, mul_assoc]

/-- The even and odd columns are the rotated columns. -/
theorem even_col (x : FVec Ideal Cert.ReferenceIdeal.S3x1024x6144 .bf16) (h : FVec Ideal Cert.ReferenceIdeal.S128x128 .f32) (a : Fin 3) (b : Fin 1024) (j : Fin 3072) :
    Ref.REVEN x h (ix3 a b j) = Ref.RROT x h (ix3 a b ⟨j.val * 2, by omega⟩) := by
  rw [Ref.REVEN_at, Ref.RROT_at]
  refine Finset.sum_congr rfl fun k _ => ?_
  congr 2
  · exact congrArg (ix3 a b) (Fin.ext (by simp only []; omega))
  · exact congrArg (ix2 k) (Fin.ext (by simp only []; omega))
theorem odd_col (x : FVec Ideal Cert.ReferenceIdeal.S3x1024x6144 .bf16) (h : FVec Ideal Cert.ReferenceIdeal.S128x128 .f32) (a : Fin 3) (b : Fin 1024) (j : Fin 3072) :
    Ref.RODD x h (ix3 a b j) = Ref.RROT x h (ix3 a b ⟨j.val * 2 + 1, by omega⟩) := by
  rw [Ref.RODD_at, Ref.RROT_at]
  refine Finset.sum_congr rfl fun k _ => ?_
  congr 2
  · exact congrArg (ix3 a b) (Fin.ext (by simp only []; omega))
  · exact congrArg (ix2 k) (Fin.ext (by simp only []; omega))

section
variable (x : FVec Ideal Cert.ReferenceIdeal.S3x1024x6144 .bf16)
/-- The rows flat. -/
abbrev FLAT : FVec Ideal Cert.KernelIdeal.S3072x6144 .bf16 := shapeCast Cert.KernelIdeal.S3072x6144 x Cert.KernelIdeal.Gen.shapeCasts_S3x1024x6144_S3072x6144

theorem scl (r : Fin 3072) : GSCL (FLAT x) HH r = Ref.scale x (ix2 ⟨r.val / 1024, by omega⟩ ⟨r.val % 1024, by omega⟩) := by
  have e : GAMX (FLAT x) HH r = Ref.RAMX (Ref.RROT x (Ref.HAD Ref.SGN)) (ix2 ⟨r.val / 1024, by omega⟩ ⟨r.val % 1024, by omega⟩) := by
    rw [Ref.RAMX_at]
    unfold GAMX
    exact congrArg (fun f : Fin 6144 → EReal => Finset.fold max (Ideal.ofBits .f32 0xFF800000#32) f Finset.univ)
      (funext fun n => congrArg (FloatOps.absf (F := Ideal) (φ := .f32)) (rot x r n))
  unfold Ref.scale
  rw [Ref.RSCL_at, ← e]
  rfl

/-! ### The codes -/

theorem word : ∀ n : Fin 15, BitVec.ofInt 8 ((n.val : ℤ) - 7) = BitVec.setWidth 8 (BitVec.ofInt 32 ((n.val : ℤ) - 7)) := by decide
/-- The eight-bit conversion of a clipped value is the low byte of the 32-bit one. -/
theorem byte (y s : EReal) : Ideal.fptosi 8 (Ref.CLIP y s) = BitVec.setWidth 8 (Ideal.fptosi 32 (Ref.CLIP y s)) := by
  unfold Ref.CLIP
  rw [seven, neg_seven]
  generalize Ideal.liftRound Ideal.roundHalfEven (Ideal.div y s) = v
  obtain ⟨q, h1, h2, e⟩ : ∃ q : ℝ, -7 ≤ q ∧ q ≤ 7 ∧ min ((7 : ℝ) : EReal) (max ((-7 : ℝ) : EReal) v) = (q : EReal) := by
    induction v using EReal.rec with
    | bot => exact ⟨-7, by norm_num, by norm_num, by rw [max_eq_left bot_le, min_eq_right (EReal.coe_le_coe_iff.mpr (by norm_num))]⟩
    | top => exact ⟨7, by norm_num, by norm_num, by rw [max_eq_right le_top, min_eq_left le_top]⟩
    | coe r => exact ⟨min 7 (max (-7) r), le_min (by norm_num) (le_max_left _ _), min_le_left _ _, by rw [EReal.coe_strictMono.monotone.map_min, EReal.coe_strictMono.monotone.map_max]⟩
  rw [e]
  show BitVec.ofInt 8 (max _ (min _ (if 0 ≤ q then ⌊q⌋ else ⌈q⌉))) = BitVec.setWidth 8 (BitVec.ofInt 32 (max _ (min _ (if 0 ≤ q then ⌊q⌋ else ⌈q⌉))))
  have hz : -7 ≤ (if 0 ≤ q then ⌊q⌋ else ⌈q⌉) ∧ (if 0 ≤ q then ⌊q⌋ else ⌈q⌉) ≤ 7 := by
    split
    · exact ⟨Int.le_floor.mpr (by push_cast; exact h1), Int.floor_le_iff.mpr (by push_cast; linarith)⟩
    · exact ⟨Int.le_ceil_iff.mpr (by push_cast; linarith), Int.ceil_le.mpr (by push_cast; exact h2)⟩
  generalize (if 0 ≤ q then ⌊q⌋ else ⌈q⌉) = z at hz
  obtain ⟨l, u⟩ := hz
  have w := word ⟨(z + 7).toNat, by omega⟩
  rw [show (((z + 7).toNat : ℤ) - 7) = z by omega] at w
  rw [show max (-((2 ^ (8 - 1) : Nat) : ℤ)) (min (((2 ^ (8 - 1) : Nat) : ℤ) - 1) z) = z by norm_num; omega,
    show max (-((2 ^ (32 - 1) : Nat) : ℤ)) (min (((2 ^ (32 - 1) : Nat) : ℤ) - 1) z) = z by norm_num; omega]
  exact w

theorem code (r : Fin 3072) (n : Fin 6144) :
    GCODE (FLAT x) HH r n = Ref.codes x (ix3 ⟨r.val / 1024, by omega⟩ ⟨r.val % 1024, by omega⟩ n) := by
  unfold Ref.codes
  rw [Ref.RCODE_at, ← byte, ← scl, ← rot]
  rfl
/-- A signed byte and its 32-bit extension are the same number. -/
theorem sit (b : BitVec 8) : FloatOps.sitofp (F := Ideal) .bf16 b = FloatOps.sitofp (F := Ideal) .f32 (BitVec.signExtend 32 b) := by
  show ((b.toInt : ℝ) : EReal) = (((BitVec.signExtend 32 b).toInt : ℝ) : EReal)
  rw [BitVec.toInt_signExtend_of_le (by decide)]
theorem half_even (a : Fin 3) (b : Fin 1024) (j : Fin 3072) :
    Ref.RHALF (Ref.REVEN x (Ref.HAD Ref.SGN)) (Ref.scale x) (ix3 a b j) = FloatOps.sitofp (F := Ideal) .bf16 (Ref.codes x (ix3 a b ⟨j.val * 2, by omega⟩)) := by
  unfold Ref.codes
  rw [Ref.RHALF_at, Ref.RCODE_at, even_col, ← sit]
theorem half_odd (a : Fin 3) (b : Fin 1024) (j : Fin 3072) :
    Ref.RHALF (Ref.RODD x (Ref.HAD Ref.SGN)) (Ref.scale x) (ix3 a b j) = FloatOps.sitofp (F := Ideal) .bf16 (Ref.codes x (ix3 a b ⟨j.val * 2 + 1, by omega⟩)) := by
  unfold Ref.codes
  rw [Ref.RHALF_at, Ref.RCODE_at, odd_col, ← sit]
end

/-! ### The weights -/
section
variable (w : IVec Cert.ReferenceIdeal.S3072x16384 8) (s z : FVec Ideal Cert.ReferenceIdeal.S48x16384 .f32) (j : Fin 3072) (n : Fin 16384)
theorem wgt_even : GWGT w s z ⟨j.val * 2, by omega⟩ n = Ref.RWGT (Ref.RLO w) s z (ix2 j n) := by
  rw [Ref.RWGT_at, Ref.RLO_at]
  have h1 : j.val * 2 % 2 < 1 := by omega
  have h2 : (⟨j.val * 2 / 2, by omega⟩ : Fin 3072) = j := Fin.ext (by simp only []; omega)
  have h3 : (⟨j.val * 2 / 128, by omega⟩ : Fin 48) = ⟨j.val / 64, by omega⟩ := Fin.ext (by simp only []; omega)
  unfold GWGT GNIB
  simp only [h1, h2, h3, if_true]
  rfl
theorem wgt_odd : GWGT w s z ⟨j.val * 2 + 1, by omega⟩ n = Ref.RWGT (Ref.RHI w) s z (ix2 j n) := by
  rw [Ref.RWGT_at, Ref.RHI_at]
  have h1 : ¬ (j.val * 2 + 1) % 2 < 1 := by omega
  have h2 : (⟨(j.val * 2 + 1) / 2, by omega⟩ : Fin 3072) = j := Fin.ext (by simp only []; omega)
  have h3 : (⟨(j.val * 2 + 1) / 128, by omega⟩ : Fin 48) = ⟨j.val / 64, by omega⟩ := Fin.ext (by simp only []; omega)
  unfold GWGT GNIB
  simp only [h1, h2, h3, if_false]
  rfl
end

/-- A sum over the columns is the sum over the even ones and the sum over the odd ones. -/
theorem halves (f : Fin 6144 → EReal) : ∑ k, f k = (∑ j : Fin 3072, f ⟨j.val * 2, by omega⟩) + ∑ j : Fin 3072, f ⟨j.val * 2 + 1, by omega⟩ := by
  rw [← Fin.sum_mul_add_fin (L := 6144) 3072 2 f rfl, ← Finset.sum_add_distrib]
  refine Finset.sum_congr rfl fun j _ => ?_
  rw [Fin.sum_univ_two]
  rfl

/-! ### The four results -/
section
variable (x : FVec Ideal Cert.ReferenceIdeal.S3x1024x6144 .bf16) (w : IVec Cert.ReferenceIdeal.S3072x16384 8) (s z : FVec Ideal Cert.ReferenceIdeal.S48x16384 .f32)
theorem yd (r : Fin 3072) (n : Fin 16384) :
    GYD (fun j : Cert.KernelIdeal.S3072x6144.Idx => GCODE (FLAT x) HH (j 0) (j 1)) (fun j : Cert.KernelIdeal.S3072x128.Idx => GSCL (FLAT x) HH (j 0)) (GWGT w s z) r n
      = Ref.yDraft x w s z (ix3 ⟨r.val / 1024, by omega⟩ ⟨r.val % 1024, by omega⟩ n) := by
  unfold Ref.yDraft
  rw [Ref.RYD_at, Ref.RACC_at]
  unfold GYD
  refine congrArg₂ (· * ·) ?_ (scl x r)
  rw [halves]
  refine congrArg₂ (· + ·) (Finset.sum_congr rfl fun j _ => ?_) (Finset.sum_congr rfl fun j _ => ?_)
  · rw [half_even, wgt_even, ← code]
    rfl
  · rw [half_odd, wgt_odd, ← code]
    rfl
theorem yv (r : Fin 3072) (n : Fin 16384) :
    GYV (fun j : Cert.KernelIdeal.S3072x6144.Idx => GROT (FLAT x) HH (j 0) (j 1)) (GWGT w s z) r n
      = Ref.yVerify x w s z (ix3 ⟨r.val / 1024, by omega⟩ ⟨r.val % 1024, by omega⟩ n) := by
  refine Eq.trans ?_ (Ref.RACC_at (Ref.REVEN x (Ref.HAD Ref.SGN)) (Ref.RODD x (Ref.HAD Ref.SGN)) (Ref.RWGT (Ref.RLO w) s z) (Ref.RWGT (Ref.RHI w) s z) _ _ n).symm
  unfold GYV
  rw [halves]
  refine congrArg₂ (· + ·) (Finset.sum_congr rfl fun j _ => ?_) (Finset.sum_congr rfl fun j _ => ?_)
  · rw [even_col, wgt_even, ← rot]
    rfl
  · rw [odd_col, wgt_odd, ← rot]
    rfl
end

/-! ### The result arrays -/
section
variable (x : FVec Ideal Cert.ReferenceIdeal.S3x1024x6144 .bf16) (w : IVec Cert.ReferenceIdeal.S3072x16384 8) (s z : FVec Ideal Cert.ReferenceIdeal.S48x16384 .f32)
open Cert.KernelIdeal Cert.KernelIdeal.Gen
theorem split_row (a : Fin 3) (b : Fin 1024) : (⟨(a.val * 1024 + b.val) / 1024, by omega⟩ : Fin 3) = a ∧ (⟨(a.val * 1024 + b.val) % 1024, by omega⟩ : Fin 1024) = b :=
  ⟨Fin.ext (by dsimp only; omega), Fin.ext (by dsimp only; omega)⟩
theorem out_at {α : Type} (f : S3072x16384.Idx → α) (a : Fin 3) (b : Fin 1024) (n : Fin 16384) :
    shapeCast S3x1024x16384 f shapeCasts_S3072x16384_S3x1024x16384 (ix3 a b n) = f (ix2 ⟨a.val * 1024 + b.val, by omega⟩ n) := by
  pointwise
theorem codes_at' {α : Type} (f : S3072x6144.Idx → α) (a : Fin 3) (b : Fin 1024) (n : Fin 6144) :
    shapeCast S3x1024x6144 f shapeCasts_S3072x6144_S3x1024x6144 (ix3 a b n) = f (ix2 ⟨a.val * 1024 + b.val, by omega⟩ n) := by
  pointwise
theorem scale_at' {α : Type} (f : S24x1x128.Idx → α) (a : Fin 3) (b : Fin 1024) :
    shapeCast S3x1024 f shapeCasts_S24x1x128_S3x1024 (ix2 a b) = f (ix3 ⟨a.val * 8 + b.val / 128, by omega⟩ 0 ⟨b.val % 128, by omega⟩) := by
  pointwise
theorem yd_out : shapeCast S3x1024x16384 (fun i : S3072x16384.Idx =>
    GYD (fun j : S3072x6144.Idx => GCODE (FLAT x) HH (j 0) (j 1)) (fun j : S3072x128.Idx => GSCL (FLAT x) HH (j 0)) (GWGT w s z) (i 0) (i 1))
      shapeCasts_S3072x16384_S3x1024x16384 = Ref.yDraft x w s z := by
  funext i
  obtain ⟨a, b, n, rfl⟩ : ∃ (a : Fin 3) (b : Fin 1024) (n : Fin 16384), i = ix3 a b n := ⟨i 0, i 1, i 2, by pointwise⟩
  refine (out_at _ a b n).trans ((yd x w s z ⟨a.val * 1024 + b.val, by omega⟩ n).trans ?_)
  rw [(split_row a b).1, (split_row a b).2]
theorem yv_out : shapeCast S3x1024x16384 (fun i : S3072x16384.Idx =>
    GYV (fun j : S3072x6144.Idx => GROT (FLAT x) HH (j 0) (j 1)) (GWGT w s z) (i 0) (i 1))
      shapeCasts_S3072x16384_S3x1024x16384 = Ref.yVerify x w s z := by
  funext i
  obtain ⟨a, b, n, rfl⟩ : ∃ (a : Fin 3) (b : Fin 1024) (n : Fin 16384), i = ix3 a b n := ⟨i 0, i 1, i 2, by pointwise⟩
  refine (out_at _ a b n).trans ((yv x w s z ⟨a.val * 1024 + b.val, by omega⟩ n).trans ?_)
  rw [(split_row a b).1, (split_row a b).2]
theorem codes_out : shapeCast S3x1024x6144 (fun i : S3072x6144.Idx => GCODE (FLAT x) HH (i 0) (i 1))
      shapeCasts_S3072x6144_S3x1024x6144 = Ref.codes x := by
  funext i
  obtain ⟨a, b, n, rfl⟩ : ∃ (a : Fin 3) (b : Fin 1024) (n : Fin 6144), i = ix3 a b n := ⟨i 0, i 1, i 2, by pointwise⟩
  refine (codes_at' _ a b n).trans ((code x ⟨a.val * 1024 + b.val, by omega⟩ n).trans ?_)
  rw [(split_row a b).1, (split_row a b).2]
theorem scale_out (f : S24x1x128.Idx → EReal) (hf : ∀ (p : Fin 24) (l : Fin 128) (h : p.val * 128 + l.val < 3072), f (ix3 p 0 l) = GSCL (FLAT x) HH ⟨p.val * 128 + l.val, h⟩) :
    shapeCast S3x1024 f shapeCasts_S24x1x128_S3x1024 = Ref.scale x := by
  funext i
  obtain ⟨a, b, rfl⟩ : ∃ (a : Fin 3) (b : Fin 1024), i = ix2 a b := ⟨i 0, i 1, by pointwise⟩
  refine (scale_at' f a b).trans ((hf _ _ (by dsimp only; omega)).trans ((scl x _).trans ?_))
  exact congrArg (Ref.scale x) (congrArg₂ ix2 (Fin.ext (by dsimp only; omega)) (Fin.ext (by dsimp only; omega)))
end
end Cert.Proof.Match
end
-- ==== Proof.RefOps.lean ====
/- The reference's run: its results are the named terms of its arguments. Its straight line of operations is cut into
   stretches; each is read by itself, and what a stretch does not write it leaves. -/
module
public import proofs.«01_k».proof.Proof.RefDefs
@[expose] public section
set_option maxRecDepth 16384
noncomputable section
namespace Cert.Proof.Ref
open Idealize.ShloMosaic Idealize.SL.Sem
open Cert.ReferenceIdeal Cert.ReferenceIdeal.Gen

variable {F : FTy → Type} [FloatOps F]
/-- The operations up to the signs of order two and the first Kronecker product. -/
abbrev ops0 : List (HloOp τ sig (Elt F)) :=
  [ StableHlo.nullary main_cst (fun i => FloatOps.ofBits .f32 (lit0 (S2x2.rowMajor i))),
    StableHlo.TRef.unary (.of main_cst : StableHlo.TRef sig ⟨S2x2, .f32⟩) (.of main_call0_v0 : StableHlo.TRef sig ⟨S2x1x2x1, .f32⟩) (broadcastInDim S2x1x2x1 ![0, 2] bcast_S2x2_S2x1x2x1_0_2),
    StableHlo.TRef.unary (.of main_cst : StableHlo.TRef sig ⟨S2x2, .f32⟩) (.of main_call0_v1 : StableHlo.TRef sig ⟨S1x2x1x2, .f32⟩) (broadcastInDim S1x2x1x2 ![1, 3] bcast_S2x2_S1x2x1x2_1_3),
    StableHlo.TRef.unary (.of main_call0_v0 : StableHlo.TRef sig ⟨S2x1x2x1, .f32⟩) (.of main_call0_v2 : StableHlo.TRef sig ⟨S2x2x2x2, .f32⟩) (broadcastInDim S2x2x2x2 ![0, 1, 2, 3] bcast_S2x1x2x1_S2x2x2x2_0_1_2_3),
    StableHlo.TRef.unary (.of main_call0_v1 : StableHlo.TRef sig ⟨S1x2x1x2, .f32⟩) (.of main_call0_v3 : StableHlo.TRef sig ⟨S2x2x2x2, .f32⟩) (broadcastInDim S2x2x2x2 ![0, 1, 2, 3] bcast_S1x2x1x2_S2x2x2x2_0_1_2_3),
    StableHlo.TRef.binary (.of main_call0_v2 : StableHlo.TRef sig ⟨S2x2x2x2, .f32⟩) (.of main_call0_v3 : StableHlo.TRef sig ⟨S2x2x2x2, .f32⟩) (.of main_call0_v4 : StableHlo.TRef sig ⟨S2x2x2x2, .f32⟩) mulf,
    StableHlo.TRef.reshape (.of main_call0_v4 : StableHlo.TRef sig ⟨S2x2x2x2, .f32⟩) (.of main_v0 : StableHlo.TRef sig ⟨S4x4, .f32⟩) (rfl : (.f32 : EltTy) = .f32) shapeCasts_S2x2x2x2_S4x4 ]
/-- What they write. -/
abbrev ops0_W : List (Ref sig .tc) := [main_cst, main_call0_v0, main_call0_v1, main_call0_v2, main_call0_v3, main_call0_v4, main_v0]
theorem ops0_writes : (ops0 : List (HloOp τ sig (Elt F))).Forall fun op => op.writes ⊆ (ops0_W.map (Proc.devRef (τ := τ) .tc)).toFinset :=
  StableHlo.forall_writes_sub_of_map rfl
theorem ops0_sub : (ops0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.reshape_bufs_sub ..⟩
theorem ops0_fresh : (ops0 : List (HloOp τ sig (Elt F))).Forall fun op => op.fresh = ∅ :=
  ⟨rfl, rfl, rfl, rfl, rfl, rfl, rfl⟩
/-- The operations up to the second Kronecker product. -/
abbrev ops1 : List (HloOp τ sig (Elt F)) :=
  [ StableHlo.TRef.unary (.of main_v0 : StableHlo.TRef sig ⟨S4x4, .f32⟩) (.of main_call1_v0 : StableHlo.TRef sig ⟨S4x1x4x1, .f32⟩) (broadcastInDim S4x1x4x1 ![0, 2] bcast_S4x4_S4x1x4x1_0_2),
    StableHlo.TRef.unary (.of main_cst : StableHlo.TRef sig ⟨S2x2, .f32⟩) (.of main_call1_v1 : StableHlo.TRef sig ⟨S1x2x1x2, .f32⟩) (broadcastInDim S1x2x1x2 ![1, 3] bcast_S2x2_S1x2x1x2_1_3),
    StableHlo.TRef.unary (.of main_call1_v0 : StableHlo.TRef sig ⟨S4x1x4x1, .f32⟩) (.of main_call1_v2 : StableHlo.TRef sig ⟨S4x2x4x2, .f32⟩) (broadcastInDim S4x2x4x2 ![0, 1, 2, 3] bcast_S4x1x4x1_S4x2x4x2_0_1_2_3),
    StableHlo.TRef.unary (.of main_call1_v1 : StableHlo.TRef sig ⟨S1x2x1x2, .f32⟩) (.of main_call1_v3 : StableHlo.TRef sig ⟨S4x2x4x2, .f32⟩) (broadcastInDim S4x2x4x2 ![0, 1, 2, 3] bcast_S1x2x1x2_S4x2x4x2_0_1_2_3),
    StableHlo.TRef.binary (.of main_call1_v2 : StableHlo.TRef sig ⟨S4x2x4x2, .f32⟩) (.of main_call1_v3 : StableHlo.TRef sig ⟨S4x2x4x2, .f32⟩) (.of main_call1_v4 : StableHlo.TRef sig ⟨S4x2x4x2, .f32⟩) mulf,
    StableHlo.TRef.reshape (.of main_call1_v4 : StableHlo.TRef sig ⟨S4x2x4x2, .f32⟩) (.of main_v1 : StableHlo.TRef sig ⟨S8x8, .f32⟩) (rfl : (.f32 : EltTy) = .f32) shapeCasts_S4x2x4x2_S8x8 ]
/-- What they write. -/
abbrev ops1_W : List (Ref sig .tc) := [main_call1_v0, main_call1_v1, main_call1_v2, main_call1_v3, main_call1_v4, main_v1]
theorem ops1_writes : (ops1 : List (HloOp τ sig (Elt F))).Forall fun op => op.writes ⊆ (ops1_W.map (Proc.devRef (τ := τ) .tc)).toFinset :=
  StableHlo.forall_writes_sub_of_map rfl
theorem ops1_sub : (ops1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem ops1_fresh : (ops1 : List (HloOp τ sig (Elt F))).Forall fun op => op.fresh = ∅ :=
  ⟨rfl, rfl, rfl, rfl, rfl, rfl⟩
/-- The operations up to the third Kronecker product. -/
abbrev ops2 : List (HloOp τ sig (Elt F)) :=
  [ StableHlo.TRef.unary (.of main_v1 : StableHlo.TRef sig ⟨S8x8, .f32⟩) (.of main_call2_v0 : StableHlo.TRef sig ⟨S8x1x8x1, .f32⟩) (broadcastInDim S8x1x8x1 ![0, 2] bcast_S8x8_S8x1x8x1_0_2),
    StableHlo.TRef.unary (.of main_cst : StableHlo.TRef sig ⟨S2x2, .f32⟩) (.of main_call2_v1 : StableHlo.TRef sig ⟨S1x2x1x2, .f32⟩) (broadcastInDim S1x2x1x2 ![1, 3] bcast_S2x2_S1x2x1x2_1_3),
    StableHlo.TRef.unary (.of main_call2_v0 : StableHlo.TRef sig ⟨S8x1x8x1, .f32⟩) (.of main_call2_v2 : StableHlo.TRef sig ⟨S8x2x8x2, .f32⟩) (broadcastInDim S8x2x8x2 ![0, 1, 2, 3] bcast_S8x1x8x1_S8x2x8x2_0_1_2_3),
    StableHlo.TRef.unary (.of main_call2_v1 : StableHlo.TRef sig ⟨S1x2x1x2, .f32⟩) (.of main_call2_v3 : StableHlo.TRef sig ⟨S8x2x8x2, .f32⟩) (broadcastInDim S8x2x8x2 ![0, 1, 2, 3] bcast_S1x2x1x2_S8x2x8x2_0_1_2_3),
    StableHlo.TRef.binary (.of main_call2_v2 : StableHlo.TRef sig ⟨S8x2x8x2, .f32⟩) (.of main_call2_v3 : StableHlo.TRef sig ⟨S8x2x8x2, .f32⟩) (.of main_call2_v4 : StableHlo.TRef sig ⟨S8x2x8x2, .f32⟩) mulf,
    StableHlo.TRef.reshape (.of main_call2_v4 : StableHlo.TRef sig ⟨S8x2x8x2, .f32⟩) (.of main_v2 : StableHlo.TRef sig ⟨S16x16, .f32⟩) (rfl : (.f32 : EltTy) = .f32) shapeCasts_S8x2x8x2_S16x16 ]
/-- What they write. -/
abbrev ops2_W : List (Ref sig .tc) := [main_call2_v0, main_call2_v1, main_call2_v2, main_call2_v3, main_call2_v4, main_v2]
theorem ops2_writes : (ops2 : List (HloOp τ sig (Elt F))).Forall fun op => op.writes ⊆ (ops2_W.map (Proc.devRef (τ := τ) .tc)).toFinset :=
  StableHlo.forall_writes_sub_of_map rfl
theorem ops2_sub : (ops2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem ops2_fresh : (ops2 : List (HloOp τ sig (Elt F))).Forall fun op => op.fresh = ∅ :=
  ⟨rfl, rfl, rfl, rfl, rfl, rfl⟩
/-- The operations up to the fourth Kronecker product. -/
abbrev ops3 : List (HloOp τ sig (Elt F)) :=
  [ StableHlo.TRef.unary (.of main_v2 : StableHlo.TRef sig ⟨S16x16, .f32⟩) (.of main_call3_v0 : StableHlo.TRef sig ⟨S16x1x16x1, .f32⟩) (broadcastInDim S16x1x16x1 ![0, 2] bcast_S16x16_S16x1x16x1_0_2),
    StableHlo.TRef.unary (.of main_cst : StableHlo.TRef sig ⟨S2x2, .f32⟩) (.of main_call3_v1 : StableHlo.TRef sig ⟨S1x2x1x2, .f32⟩) (broadcastInDim S1x2x1x2 ![1, 3] bcast_S2x2_S1x2x1x2_1_3),
    StableHlo.TRef.unary (.of main_call3_v0 : StableHlo.TRef sig ⟨S16x1x16x1, .f32⟩) (.of main_call3_v2 : StableHlo.TRef sig ⟨S16x2x16x2, .f32⟩) (broadcastInDim S16x2x16x2 ![0, 1, 2, 3] bcast_S16x1x16x1_S16x2x16x2_0_1_2_3),
    StableHlo.TRef.unary (.of main_call3_v1 : StableHlo.TRef sig ⟨S1x2x1x2, .f32⟩) (.of main_call3_v3 : StableHlo.TRef sig ⟨S16x2x16x2, .f32⟩) (broadcastInDim S16x2x16x2 ![0, 1, 2, 3] bcast_S1x2x1x2_S16x2x16x2_0_1_2_3),
    StableHlo.TRef.binary (.of main_call3_v2 : StableHlo.TRef sig ⟨S16x2x16x2, .f32⟩) (.of main_call3_v3 : StableHlo.TRef sig ⟨S16x2x16x2, .f32⟩) (.of main_call3_v4 : StableHlo.TRef sig ⟨S16x2x16x2, .f32⟩) mulf,
    StableHlo.TRef.reshape (.of main_call3_v4 : StableHlo.TRef sig ⟨S16x2x16x2, .f32⟩) (.of main_v3 : StableHlo.TRef sig ⟨S32x32, .f32⟩) (rfl : (.f32 : EltTy) = .f32) shapeCasts_S16x2x16x2_S32x32 ]
/-- What they write. -/
abbrev ops3_W : List (Ref sig .tc) := [main_call3_v0, main_call3_v1, main_call3_v2, main_call3_v3, main_call3_v4, main_v3]
theorem ops3_writes : (ops3 : List (HloOp τ sig (Elt F))).Forall fun op => op.writes ⊆ (ops3_W.map (Proc.devRef (τ := τ) .tc)).toFinset :=
  StableHlo.forall_writes_sub_of_map rfl
theorem ops3_sub : (ops3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem ops3_fresh : (ops3 : List (HloOp τ sig (Elt F))).Forall fun op => op.fresh = ∅ :=
  ⟨rfl, rfl, rfl, rfl, rfl, rfl⟩
/-- The operations up to the fifth Kronecker product. -/
abbrev ops4 : List (HloOp τ sig (Elt F)) :=
  [ StableHlo.TRef.unary (.of main_v3 : StableHlo.TRef sig ⟨S32x32, .f32⟩) (.of main_call4_v0 : StableHlo.TRef sig ⟨S32x1x32x1, .f32⟩) (broadcastInDim S32x1x32x1 ![0, 2] bcast_S32x32_S32x1x32x1_0_2),
    StableHlo.TRef.unary (.of main_cst : StableHlo.TRef sig ⟨S2x2, .f32⟩) (.of main_call4_v1 : StableHlo.TRef sig ⟨S1x2x1x2, .f32⟩) (broadcastInDim S1x2x1x2 ![1, 3] bcast_S2x2_S1x2x1x2_1_3),
    StableHlo.TRef.unary (.of main_call4_v0 : StableHlo.TRef sig ⟨S32x1x32x1, .f32⟩) (.of main_call4_v2 : StableHlo.TRef sig ⟨S32x2x32x2, .f32⟩) (broadcastInDim S32x2x32x2 ![0, 1, 2, 3] bcast_S32x1x32x1_S32x2x32x2_0_1_2_3),
    StableHlo.TRef.unary (.of main_call4_v1 : StableHlo.TRef sig ⟨S1x2x1x2, .f32⟩) (.of main_call4_v3 : StableHlo.TRef sig ⟨S32x2x32x2, .f32⟩) (broadcastInDim S32x2x32x2 ![0, 1, 2, 3] bcast_S1x2x1x2_S32x2x32x2_0_1_2_3),
    StableHlo.TRef.binary (.of main_call4_v2 : StableHlo.TRef sig ⟨S32x2x32x2, .f32⟩) (.of main_call4_v3 : StableHlo.TRef sig ⟨S32x2x32x2, .f32⟩) (.of main_call4_v4 : StableHlo.TRef sig ⟨S32x2x32x2, .f32⟩) mulf,
    StableHlo.TRef.reshape (.of main_call4_v4 : StableHlo.TRef sig ⟨S32x2x32x2, .f32⟩) (.of main_v4 : StableHlo.TRef sig ⟨S64x64, .f32⟩) (rfl : (.f32 : EltTy) = .f32) shapeCasts_S32x2x32x2_S64x64 ]
/-- What they write. -/
abbrev ops4_W : List (Ref sig .tc) := [main_call4_v0, main_call4_v1, main_call4_v2, main_call4_v3, main_call4_v4, main_v4]
theorem ops4_writes : (ops4 : List (HloOp τ sig (Elt F))).Forall fun op => op.writes ⊆ (ops4_W.map (Proc.devRef (τ := τ) .tc)).toFinset :=
  StableHlo.forall_writes_sub_of_map rfl
theorem ops4_sub : (ops4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem ops4_fresh : (ops4 : List (HloOp τ sig (Elt F))).Forall fun op => op.fresh = ∅ :=
  ⟨rfl, rfl, rfl, rfl, rfl, rfl⟩
/-- The operations up to the sixth Kronecker product. -/
abbrev ops5 : List (HloOp τ sig (Elt F)) :=
  [ StableHlo.TRef.unary (.of main_v4 : StableHlo.TRef sig ⟨S64x64, .f32⟩) (.of main_call5_v0 : StableHlo.TRef sig ⟨S64x1x64x1, .f32⟩) (broadcastInDim S64x1x64x1 ![0, 2] bcast_S64x64_S64x1x64x1_0_2),
    StableHlo.TRef.unary (.of main_cst : StableHlo.TRef sig ⟨S2x2, .f32⟩) (.of main_call5_v1 : StableHlo.TRef sig ⟨S1x2x1x2, .f32⟩) (broadcastInDim S1x2x1x2 ![1, 3] bcast_S2x2_S1x2x1x2_1_3),
    StableHlo.TRef.unary (.of main_call5_v0 : StableHlo.TRef sig ⟨S64x1x64x1, .f32⟩) (.of main_call5_v2 : StableHlo.TRef sig ⟨S64x2x64x2, .f32⟩) (broadcastInDim S64x2x64x2 ![0, 1, 2, 3] bcast_S64x1x64x1_S64x2x64x2_0_1_2_3),
    StableHlo.TRef.unary (.of main_call5_v1 : StableHlo.TRef sig ⟨S1x2x1x2, .f32⟩) (.of main_call5_v3 : StableHlo.TRef sig ⟨S64x2x64x2, .f32⟩) (broadcastInDim S64x2x64x2 ![0, 1, 2, 3] bcast_S1x2x1x2_S64x2x64x2_0_1_2_3),
    StableHlo.TRef.binary (.of main_call5_v2 : StableHlo.TRef sig ⟨S64x2x64x2, .f32⟩) (.of main_call5_v3 : StableHlo.TRef sig ⟨S64x2x64x2, .f32⟩) (.of main_call5_v4 : StableHlo.TRef sig ⟨S64x2x64x2, .f32⟩) mulf,
    StableHlo.TRef.reshape (.of main_call5_v4 : StableHlo.TRef sig ⟨S64x2x64x2, .f32⟩) (.of main_v5 : StableHlo.TRef sig ⟨S128x128, .f32⟩) (rfl : (.f32 : EltTy) = .f32) shapeCasts_S64x2x64x2_S128x128 ]
/-- What they write. -/
abbrev ops5_W : List (Ref sig .tc) := [main_call5_v0, main_call5_v1, main_call5_v2, main_call5_v3, main_call5_v4, main_v5]
theorem ops5_writes : (ops5 : List (HloOp τ sig (Elt F))).Forall fun op => op.writes ⊆ (ops5_W.map (Proc.devRef (τ := τ) .tc)).toFinset :=
  StableHlo.forall_writes_sub_of_map rfl
theorem ops5_sub : (ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem ops5_fresh : (ops5 : List (HloOp τ sig (Elt F))).Forall fun op => op.fresh = ∅ :=
  ⟨rfl, rfl, rfl, rfl, rfl, rfl⟩
/-- The operations up to the Hadamard matrix. -/
abbrev ops6 : List (HloOp τ sig (Elt F)) :=
  [ StableHlo.nullary main_cst_0 (constant S_ .f32 0x3DB504F3#32),
    StableHlo.unary main_cst_0 main_v6 (broadcastInDim S128x128 ![] bcast_S_S128x128 : (⟨S_, .f32⟩ : BufTy).Contents (Elt F) → (⟨S128x128, .f32⟩ : BufTy).Contents (Elt F)),
    StableHlo.binary main_v5 main_v6 main_v7 (mulf : (⟨S128x128, .f32⟩ : BufTy).Contents (Elt F) → (⟨S128x128, .f32⟩ : BufTy).Contents (Elt F) → (⟨S128x128, .f32⟩ : BufTy).Contents (Elt F)) ]
/-- What they write. -/
abbrev ops6_W : List (Ref sig .tc) := [main_cst_0, main_v6, main_v7]
theorem ops6_writes : (ops6 : List (HloOp τ sig (Elt F))).Forall fun op => op.writes ⊆ (ops6_W.map (Proc.devRef (τ := τ) .tc)).toFinset :=
  StableHlo.forall_writes_sub_of_map rfl
theorem ops6_sub : (ops6 : List (HloOp τ sig (Elt F))).Forall fun op => op.bufs ⊆ StableHlo.tcRefs τ sig :=
  ⟨StableHlo.nullary_bufs_sub .., StableHlo.unary_bufs_sub .., StableHlo.binary_bufs_sub ..⟩
theorem ops6_fresh : (ops6 : List (HloOp τ sig (Elt F))).Forall fun op => op.fresh = ∅ :=
  ⟨rfl, rfl, rfl⟩
/-- The operations up to the rotated draft rows. -/
abbrev ops7 : List (HloOp τ sig (Elt F)) :=
  [ StableHlo.unary main_arg0 main_v8 ((extf .f32 · bitsLt_bf16_f32) : (⟨S3x1024x6144, .bf16⟩ : BufTy).Contents (Elt F) → (⟨S3x1024x6144, .f32⟩ : BufTy).Contents (Elt F)),
    StableHlo.reshape main_v8 main_v9 (rfl : (.f32 : EltTy) = .f32) shapeCasts_S3x1024x6144_S3x1024x48x128,
    StableHlo.binary main_v9 main_v7 main_v10 ((fun l r => Host.dotGeneral dot_S3x1024x48x128_S128x128_S3x1024x48x128_3_0_012_1_n_n (some .fp32) l r) : (⟨S3x1024x48x128, .f32⟩ : BufTy).Contents (Elt F) → (⟨S128x128, .f32⟩ : BufTy).Contents (Elt F) → (⟨S3x1024x48x128, .f32⟩ : BufTy).Contents (Elt F)),
    StableHlo.reshape main_v10 main_v11 (rfl : (.f32 : EltTy) = .f32) shapeCasts_S3x1024x48x128_S3x1024x6144 ]
/-- What they write. -/
abbrev ops7_W : List (Ref sig .tc) := [main_v8, main_v9, main_v10, main_v11]
theorem ops7_writes : (ops7 : List (HloOp τ sig (Elt F))).Forall fun op => op.writes ⊆ (ops7_W.map (Proc.devRef (τ := τ) .tc)).toFinset :=
  StableHlo.forall_writes_sub_of_map rfl
theorem ops7_sub : (ops7 : List (HloOp τ sig (Elt F))).Forall fun op => op.bufs ⊆ StableHlo.tcRefs τ sig :=
  ⟨StableHlo.unary_bufs_sub .., StableHlo.reshape_bufs_sub .., StableHlo.binary_bufs_sub .., StableHlo.reshape_bufs_sub ..⟩
theorem ops7_fresh : (ops7 : List (HloOp τ sig (Elt F))).Forall fun op => op.fresh = ∅ :=
  ⟨rfl, rfl, rfl, rfl⟩
/-- The operations up to the rows' largest absolute values. -/
abbrev ops8 : List (HloOp τ sig (Elt F)) :=
  [ StableHlo.unary main_v11 main_v12 (Host.absf : (⟨S3x1024x6144, .f32⟩ : BufTy).Contents (Elt F) → (⟨S3x1024x6144, .f32⟩ : BufTy).Contents (Elt F)),
    StableHlo.nullary main_cst_1 (constant S_ .f32 0xFF800000#32),
    StableHlo.binary main_v12 main_cst_1 main_v13 ((fun x v => Host.reduce FloatOps.maximumf x v reducesTo_S3x1024x6144_S3x1024_d2 h_S_) : (⟨S3x1024x6144, .f32⟩ : BufTy).Contents (Elt F) → (⟨S_, .f32⟩ : BufTy).Contents (Elt F) → (⟨S3x1024, .f32⟩ : BufTy).Contents (Elt F)) ]
/-- What they write. -/
abbrev ops8_W : List (Ref sig .tc) := [main_v12, main_cst_1, main_v13]
theorem ops8_writes : (ops8 : List (HloOp τ sig (Elt F))).Forall fun op => op.writes ⊆ (ops8_W.map (Proc.devRef (τ := τ) .tc)).toFinset :=
  StableHlo.forall_writes_sub_of_map rfl
theorem ops8_sub : (ops8 : List (HloOp τ sig (Elt F))).Forall fun op => op.bufs ⊆ StableHlo.tcRefs τ sig :=
  ⟨StableHlo.unary_bufs_sub .., StableHlo.nullary_bufs_sub .., StableHlo.binary_bufs_sub ..⟩
theorem ops8_fresh : (ops8 : List (HloOp τ sig (Elt F))).Forall fun op => op.fresh = ∅ :=
  ⟨rfl, rfl, rfl⟩
/-- The operations up to the scales. -/
abbrev ops9 : List (HloOp τ sig (Elt F)) :=
  [ StableHlo.nullary main_cst_2 (constant S_ .f32 0x00000000#32),
    StableHlo.unary main_cst_2 main_v14 (broadcastInDim S3x1024 ![] bcast_S_S3x1024 : (⟨S_, .f32⟩ : BufTy).Contents (Elt F) → (⟨S3x1024, .f32⟩ : BufTy).Contents (Elt F)),
    StableHlo.binary main_v13 main_v14 main_v15 (cmpf .oeq : (⟨S3x1024, .f32⟩ : BufTy).Contents (Elt F) → (⟨S3x1024, .f32⟩ : BufTy).Contents (Elt F) → (⟨S3x1024, .i1⟩ : BufTy).Contents (Elt F)),
    StableHlo.nullary main_cst_3 (constant S_ .f32 0x40E00000#32),
    StableHlo.unary main_cst_3 main_v16 (broadcastInDim S3x1024 ![] bcast_S_S3x1024 : (⟨S_, .f32⟩ : BufTy).Contents (Elt F) → (⟨S3x1024, .f32⟩ : BufTy).Contents (Elt F)),
    StableHlo.binary main_v13 main_v16 main_v17 (Host.divf : (⟨S3x1024, .f32⟩ : BufTy).Contents (Elt F) → (⟨S3x1024, .f32⟩ : BufTy).Contents (Elt F) → (⟨S3x1024, .f32⟩ : BufTy).Contents (Elt F)),
    StableHlo.nullary main_cst_4 (constant S_ .f32 0x3F800000#32),
    StableHlo.TRef.unary (.of main_cst_4 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S3x1024, .f32⟩) (broadcastInDim S3x1024 ![] bcast_S_S3x1024),
    StableHlo.TRef.ternary (.of main_v15 : StableHlo.TRef sig ⟨S3x1024, .i1⟩) (.of main_call6_v1 : StableHlo.TRef sig ⟨S3x1024, .f32⟩) (.of main_v17 : StableHlo.TRef sig ⟨S3x1024, .f32⟩) (.of main_v18 : StableHlo.TRef sig ⟨S3x1024, .f32⟩) select ]
/-- What they write. -/
abbrev ops9_W : List (Ref sig .tc) := [main_cst_2, main_v14, main_v15, main_cst_3, main_v16, main_v17, main_cst_4, main_call6_v0, main_call6_v1, main_v18]
theorem ops9_writes : (ops9 : List (HloOp τ sig (Elt F))).Forall fun op => op.writes ⊆ (ops9_W.map (Proc.devRef (τ := τ) .tc)).toFinset :=
  StableHlo.forall_writes_sub_of_map rfl
theorem ops9_sub : (ops9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩
theorem ops9_fresh : (ops9 : List (HloOp τ sig (Elt F))).Forall fun op => op.fresh = ∅ :=
  ⟨rfl, rfl, rfl, rfl, rfl, rfl, rfl, rfl, rfl, rfl⟩
/-- The operations up to the codes. -/
abbrev ops10 : List (HloOp τ sig (Elt F)) :=
  [ StableHlo.unary main_v18 main_v19 (broadcastInDim S3x1024x1 ![0, 1] bcast_S3x1024_S3x1024x1_0_1 : (⟨S3x1024, .f32⟩ : BufTy).Contents (Elt F) → (⟨S3x1024x1, .f32⟩ : BufTy).Contents (Elt F)),
    StableHlo.unary main_v19 main_v20 (broadcastInDim S3x1024x6144 ![0, 1, 2] bcast_S3x1024x1_S3x1024x6144_0_1_2 : (⟨S3x1024x1, .f32⟩ : BufTy).Contents (Elt F) → (⟨S3x1024x6144, .f32⟩ : BufTy).Contents (Elt F)),
    StableHlo.binary main_v11 main_v20 main_v21 (Host.divf : (⟨S3x1024x6144, .f32⟩ : BufTy).Contents (Elt F) → (⟨S3x1024x6144, .f32⟩ : BufTy).Contents (Elt F) → (⟨S3x1024x6144, .f32⟩ : BufTy).Contents (Elt F)),
    StableHlo.TRef.unary (.of main_v21 : StableHlo.TRef sig ⟨S3x1024x6144, .f32⟩) (.of main_v22 : StableHlo.TRef sig ⟨S3x1024x6144, .f32⟩) Host.roundeven,
    StableHlo.nullary main_cst_5 (constant S_ .f32 0xC0E00000#32),
    StableHlo.nullary main_cst_6 (constant S_ .f32 0x40E00000#32),
    StableHlo.TRef.unary (.of main_cst_5 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S3x1024x6144, .f32⟩) (broadcastInDim S3x1024x6144 ![] bcast_S_S3x1024x6144),
    StableHlo.TRef.binary (.of main_call8_v1 : StableHlo.TRef sig ⟨S3x1024x6144, .f32⟩) (.of main_v22 : StableHlo.TRef sig ⟨S3x1024x6144, .f32⟩) (.of main_call8_v2 : StableHlo.TRef sig ⟨S3x1024x6144, .f32⟩) maximumf,
    StableHlo.TRef.unary (.of main_cst_6 : StableHlo.TRef sig ⟨S_, .f32⟩) (.of main_call8_v3 : StableHlo.TRef sig ⟨S_, .f32⟩) id,
    StableHlo.TRef.unary (.of main_call8_v3 : StableHlo.TRef sig ⟨S_, .f32⟩) (.of main_call8_v4 : StableHlo.TRef sig ⟨S3x1024x6144, .f32⟩) (broadcastInDim S3x1024x6144 ![] bcast_S_S3x1024x6144),
    StableHlo.TRef.binary (.of main_call8_v4 : StableHlo.TRef sig ⟨S3x1024x6144, .f32⟩) (.of main_call8_v2 : StableHlo.TRef sig ⟨S3x1024x6144, .f32⟩) (.of main_v23 : StableHlo.TRef sig ⟨S3x1024x6144, .f32⟩) minimumf,
    StableHlo.unary main_v23 main_v24 (fptosi 32 : (⟨S3x1024x6144, .f32⟩ : BufTy).Contents (Elt F) → (⟨S3x1024x6144, .i32⟩ : BufTy).Contents (Elt F)),
    StableHlo.unary main_v24 main_v25 ((trunci 8 · natLt_8_32) : (⟨S3x1024x6144, .i32⟩ : BufTy).Contents (Elt F) → (⟨S3x1024x6144, .i8⟩ : BufTy).Contents (Elt F)) ]
/-- What they write. -/
abbrev ops10_W : List (Ref sig .tc) := [main_v19, main_v20, main_v21, main_v22, main_cst_5, main_cst_6, main_call8_v0, main_call8_v1, main_call8_v2, main_call8_v3, main_call8_v4, main_v23, main_v24, main_v25]
theorem ops10_writes : (ops10 : List (HloOp τ sig (Elt F))).Forall fun op => op.writes ⊆ (ops10_W.map (Proc.devRef (τ := τ) .tc)).toFinset :=
  StableHlo.forall_writes_sub_of_map rfl
theorem ops10_sub : (ops10 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩
theorem ops10_fresh : (ops10 : List (HloOp τ sig (Elt F))).Forall fun op => op.fresh = ∅ :=
  ⟨rfl, rfl, rfl, rfl, rfl, rfl, rfl, rfl, rfl, rfl, rfl, rfl, rfl, rfl⟩
/-- The operations up to the rotated draft rows' even and odd columns. -/
abbrev ops11 : List (HloOp τ sig (Elt F)) :=
  [ StableHlo.unary main_arg0 main_v26 ((extf .f32 · bitsLt_bf16_f32) : (⟨S3x1024x6144, .bf16⟩ : BufTy).Contents (Elt F) → (⟨S3x1024x6144, .f32⟩ : BufTy).Contents (Elt F)),
    StableHlo.reshape main_v26 main_v27 (rfl : (.f32 : EltTy) = .f32) shapeCasts_S3x1024x6144_S3x1024x48x128,
    StableHlo.unary main_v7 main_v28 ((Host.slice S128x64 ![0, 0] ![1, 2] · slicesBy_S128x128_S128x64_0s1_0s2) : (⟨S128x128, .f32⟩ : BufTy).Contents (Elt F) → (⟨S128x64, .f32⟩ : BufTy).Contents (Elt F)),
    StableHlo.binary main_v27 main_v28 main_v29 ((fun l r => Host.dotGeneral dot_S3x1024x48x128_S128x64_S3x1024x48x64_3_0_012_1_n_n (some .fp32) l r) : (⟨S3x1024x48x128, .f32⟩ : BufTy).Contents (Elt F) → (⟨S128x64, .f32⟩ : BufTy).Contents (Elt F) → (⟨S3x1024x48x64, .f32⟩ : BufTy).Contents (Elt F)),
    StableHlo.unary main_v7 main_v30 ((Host.slice S128x64 ![0, 1] ![1, 2] · slicesBy_S128x128_S128x64_0s1_1s2) : (⟨S128x128, .f32⟩ : BufTy).Contents (Elt F) → (⟨S128x64, .f32⟩ : BufTy).Contents (Elt F)),
    StableHlo.binary main_v27 main_v30 main_v31 ((fun l r => Host.dotGeneral dot_S3x1024x48x128_S128x64_S3x1024x48x64_3_0_012_1_n_n (some .fp32) l r) : (⟨S3x1024x48x128, .f32⟩ : BufTy).Contents (Elt F) → (⟨S128x64, .f32⟩ : BufTy).Contents (Elt F) → (⟨S3x1024x48x64, .f32⟩ : BufTy).Contents (Elt F)),
    StableHlo.reshape main_v29 main_v32 (rfl : (.f32 : EltTy) = .f32) shapeCasts_S3x1024x48x64_S3x1024x3072,
    StableHlo.reshape main_v31 main_v33 (rfl : (.f32 : EltTy) = .f32) shapeCasts_S3x1024x48x64_S3x1024x3072 ]
/-- What they write. -/
abbrev ops11_W : List (Ref sig .tc) := [main_v26, main_v27, main_v28, main_v29, main_v30, main_v31, main_v32, main_v33]
theorem ops11_writes : (ops11 : List (HloOp τ sig (Elt F))).Forall fun op => op.writes ⊆ (ops11_W.map (Proc.devRef (τ := τ) .tc)).toFinset :=
  StableHlo.forall_writes_sub_of_map rfl
theorem ops11_sub : (ops11 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.binary_bufs_sub .., StableHlo.reshape_bufs_sub .., StableHlo.reshape_bufs_sub ..⟩
theorem ops11_fresh : (ops11 : List (HloOp τ sig (Elt F))).Forall fun op => op.fresh = ∅ :=
  ⟨rfl, rfl, rfl, rfl, rfl, rfl, rfl, rfl⟩
/-- The operations up to their codes as values. -/
abbrev ops12 : List (HloOp τ sig (Elt F)) :=
  [ StableHlo.unary main_v18 main_v34 (broadcastInDim S3x1024x1 ![0, 1] bcast_S3x1024_S3x1024x1_0_1 : (⟨S3x1024, .f32⟩ : BufTy).Contents (Elt F) → (⟨S3x1024x1, .f32⟩ : BufTy).Contents (Elt F)),
    StableHlo.unary main_v34 main_v35 (broadcastInDim S3x1024x3072 ![0, 1, 2] bcast_S3x1024x1_S3x1024x3072_0_1_2 : (⟨S3x1024x1, .f32⟩ : BufTy).Contents (Elt F) → (⟨S3x1024x3072, .f32⟩ : BufTy).Contents (Elt F)),
    StableHlo.binary main_v32 main_v35 main_v36 (Host.divf : (⟨S3x1024x3072, .f32⟩ : BufTy).Contents (Elt F) → (⟨S3x1024x3072, .f32⟩ : BufTy).Contents (Elt F) → (⟨S3x1024x3072, .f32⟩ : BufTy).Contents (Elt F)),
    StableHlo.TRef.unary (.of main_v36 : StableHlo.TRef sig ⟨S3x1024x3072, .f32⟩) (.of main_v37 : StableHlo.TRef sig ⟨S3x1024x3072, .f32⟩) Host.roundeven,
    StableHlo.nullary main_cst_7 (constant S_ .f32 0xC0E00000#32),
    StableHlo.nullary main_cst_8 (constant S_ .f32 0x40E00000#32),
    StableHlo.TRef.unary (.of main_cst_7 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S3x1024x3072, .f32⟩) (broadcastInDim S3x1024x3072 ![] bcast_S_S3x1024x3072),
    StableHlo.TRef.binary (.of main_call10_v1 : StableHlo.TRef sig ⟨S3x1024x3072, .f32⟩) (.of main_v37 : StableHlo.TRef sig ⟨S3x1024x3072, .f32⟩) (.of main_call10_v2 : StableHlo.TRef sig ⟨S3x1024x3072, .f32⟩) maximumf,
    StableHlo.TRef.unary (.of main_cst_8 : StableHlo.TRef sig ⟨S_, .f32⟩) (.of main_call10_v3 : StableHlo.TRef sig ⟨S_, .f32⟩) id,
    StableHlo.TRef.unary (.of main_call10_v3 : StableHlo.TRef sig ⟨S_, .f32⟩) (.of main_call10_v4 : StableHlo.TRef sig ⟨S3x1024x3072, .f32⟩) (broadcastInDim S3x1024x3072 ![] bcast_S_S3x1024x3072),
    StableHlo.TRef.binary (.of main_call10_v4 : StableHlo.TRef sig ⟨S3x1024x3072, .f32⟩) (.of main_call10_v2 : StableHlo.TRef sig ⟨S3x1024x3072, .f32⟩) (.of main_v38 : StableHlo.TRef sig ⟨S3x1024x3072, .f32⟩) minimumf,
    StableHlo.unary main_v38 main_v39 (fptosi 32 : (⟨S3x1024x3072, .f32⟩ : BufTy).Contents (Elt F) → (⟨S3x1024x3072, .i32⟩ : BufTy).Contents (Elt F)),
    StableHlo.unary main_v39 main_v40 ((trunci 8 · natLt_8_32) : (⟨S3x1024x3072, .i32⟩ : BufTy).Contents (Elt F) → (⟨S3x1024x3072, .i8⟩ : BufTy).Contents (Elt F)),
    StableHlo.unary main_v40 main_v41 ((extsi 32 · natLt_8_32) : (⟨S3x1024x3072, .i8⟩ : BufTy).Contents (Elt F) → (⟨S3x1024x3072, .i32⟩ : BufTy).Contents (Elt F)),
    StableHlo.unary main_v41 main_v42 (sitofp .f32 : (⟨S3x1024x3072, .i32⟩ : BufTy).Contents (Elt F) → (⟨S3x1024x3072, .f32⟩ : BufTy).Contents (Elt F)),
    StableHlo.unary main_v42 main_v43 ((truncf .bf16 · bitsLt_bf16_f32) : (⟨S3x1024x3072, .f32⟩ : BufTy).Contents (Elt F) → (⟨S3x1024x3072, .bf16⟩ : BufTy).Contents (Elt F)),
    StableHlo.unary main_v34 main_v44 (broadcastInDim S3x1024x3072 ![0, 1, 2] bcast_S3x1024x1_S3x1024x3072_0_1_2 : (⟨S3x1024x1, .f32⟩ : BufTy).Contents (Elt F) → (⟨S3x1024x3072, .f32⟩ : BufTy).Contents (Elt F)),
    StableHlo.binary main_v33 main_v44 main_v45 (Host.divf : (⟨S3x1024x3072, .f32⟩ : BufTy).Contents (Elt F) → (⟨S3x1024x3072, .f32⟩ : BufTy).Contents (Elt F) → (⟨S3x1024x3072, .f32⟩ : BufTy).Contents (Elt F)),
    StableHlo.TRef.unary (.of main_v45 : StableHlo.TRef sig ⟨S3x1024x3072, .f32⟩) (.of main_v46 : StableHlo.TRef sig ⟨S3x1024x3072, .f32⟩) Host.roundeven,
    StableHlo.nullary main_cst_9 (constant S_ .f32 0xC0E00000#32),
    StableHlo.nullary main_cst_10 (constant S_ .f32 0x40E00000#32),
    StableHlo.TRef.unary (.of main_cst_9 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S3x1024x3072, .f32⟩) (broadcastInDim S3x1024x3072 ![] bcast_S_S3x1024x3072),
    StableHlo.TRef.binary (.of main_call12_v1 : StableHlo.TRef sig ⟨S3x1024x3072, .f32⟩) (.of main_v46 : StableHlo.TRef sig ⟨S3x1024x3072, .f32⟩) (.of main_call12_v2 : StableHlo.TRef sig ⟨S3x1024x3072, .f32⟩) maximumf,
    StableHlo.TRef.unary (.of main_cst_10 : StableHlo.TRef sig ⟨S_, .f32⟩) (.of main_call12_v3 : StableHlo.TRef sig ⟨S_, .f32⟩) id,
    StableHlo.TRef.unary (.of main_call12_v3 : StableHlo.TRef sig ⟨S_, .f32⟩) (.of main_call12_v4 : StableHlo.TRef sig ⟨S3x1024x3072, .f32⟩) (broadcastInDim S3x1024x3072 ![] bcast_S_S3x1024x3072),
    StableHlo.TRef.binary (.of main_call12_v4 : StableHlo.TRef sig ⟨S3x1024x3072, .f32⟩) (.of main_call12_v2 : StableHlo.TRef sig ⟨S3x1024x3072, .f32⟩) (.of main_v47 : StableHlo.TRef sig ⟨S3x1024x3072, .f32⟩) minimumf,
    StableHlo.unary main_v47 main_v48 (fptosi 32 : (⟨S3x1024x3072, .f32⟩ : BufTy).Contents (Elt F) → (⟨S3x1024x3072, .i32⟩ : BufTy).Contents (Elt F)),
    StableHlo.unary main_v48 main_v49 ((trunci 8 · natLt_8_32) : (⟨S3x1024x3072, .i32⟩ : BufTy).Contents (Elt F) → (⟨S3x1024x3072, .i8⟩ : BufTy).Contents (Elt F)),
    StableHlo.unary main_v49 main_v50 ((extsi 32 · natLt_8_32) : (⟨S3x1024x3072, .i8⟩ : BufTy).Contents (Elt F) → (⟨S3x1024x3072, .i32⟩ : BufTy).Contents (Elt F)),
    StableHlo.unary main_v50 main_v51 (sitofp .f32 : (⟨S3x1024x3072, .i32⟩ : BufTy).Contents (Elt F) → (⟨S3x1024x3072, .f32⟩ : BufTy).Contents (Elt F)),
    StableHlo.unary main_v51 main_v52 ((truncf .bf16 · bitsLt_bf16_f32) : (⟨S3x1024x3072, .f32⟩ : BufTy).Contents (Elt F) → (⟨S3x1024x3072, .bf16⟩ : BufTy).Contents (Elt F)) ]
/-- What they write. -/
abbrev ops12_W : List (Ref sig .tc) := [main_v34, main_v35, main_v36, main_v37, main_cst_7, main_cst_8, main_call10_v0, main_call10_v1, main_call10_v2, main_call10_v3, main_call10_v4, main_v38, main_v39, main_v40, main_v41, main_v42, main_v43, main_v44, main_v45, main_v46, main_cst_9, main_cst_10, main_call12_v0, main_call12_v1, main_call12_v2, main_call12_v3, main_call12_v4, main_v47, main_v48, main_v49, main_v50, main_v51, main_v52]
theorem ops12_writes : (ops12 : List (HloOp τ sig (Elt F))).Forall fun op => op.writes ⊆ (ops12_W.map (Proc.devRef (τ := τ) .tc)).toFinset :=
  StableHlo.forall_writes_sub_of_map rfl
theorem ops12_sub : (ops12 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub ..⟩
theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The operations up to the rotated verify rows' even and odd columns. -/
abbrev ops13 : List (HloOp τ sig (Elt F)) :=
  [ StableHlo.unary main_arg1 main_v53 ((extf .f32 · bitsLt_bf16_f32) : (⟨S3x1024x6144, .bf16⟩ : BufTy).Contents (Elt F) → (⟨S3x1024x6144, .f32⟩ : BufTy).Contents (Elt F)),
    StableHlo.reshape main_v53 main_v54 (rfl : (.f32 : EltTy) = .f32) shapeCasts_S3x1024x6144_S3x1024x48x128,
    StableHlo.unary main_v7 main_v55 ((Host.slice S128x64 ![0, 0] ![1, 2] · slicesBy_S128x128_S128x64_0s1_0s2) : (⟨S128x128, .f32⟩ : BufTy).Contents (Elt F) → (⟨S128x64, .f32⟩ : BufTy).Contents (Elt F)),
    StableHlo.binary main_v54 main_v55 main_v56 ((fun l r => Host.dotGeneral dot_S3x1024x48x128_S128x64_S3x1024x48x64_3_0_012_1_n_n (some .fp32) l r) : (⟨S3x1024x48x128, .f32⟩ : BufTy).Contents (Elt F) → (⟨S128x64, .f32⟩ : BufTy).Contents (Elt F) → (⟨S3x1024x48x64, .f32⟩ : BufTy).Contents (Elt F)),
    StableHlo.unary main_v7 main_v57 ((Host.slice S128x64 ![0, 1] ![1, 2] · slicesBy_S128x128_S128x64_0s1_1s2) : (⟨S128x128, .f32⟩ : BufTy).Contents (Elt F) → (⟨S128x64, .f32⟩ : BufTy).Contents (Elt F)),
    StableHlo.binary main_v54 main_v57 main_v58 ((fun l r => Host.dotGeneral dot_S3x1024x48x128_S128x64_S3x1024x48x64_3_0_012_1_n_n (some .fp32) l r) : (⟨S3x1024x48x128, .f32⟩ : BufTy).Contents (Elt F) → (⟨S128x64, .f32⟩ : BufTy).Contents (Elt F) → (⟨S3x1024x48x64, .f32⟩ : BufTy).Contents (Elt F)),
    StableHlo.reshape main_v56 main_v59 (rfl : (.f32 : EltTy) = .f32) shapeCasts_S3x1024x48x64_S3x1024x3072,
    StableHlo.reshape main_v58 main_v60 (rfl : (.f32 : EltTy) = .f32) shapeCasts_S3x1024x48x64_S3x1024x3072 ]
/-- What they write. -/
abbrev ops13_W : List (Ref sig .tc) := [main_v53, main_v54, main_v55, main_v56, main_v57, main_v58, main_v59, main_v60]
theorem ops13_writes : (ops13 : List (HloOp τ sig (Elt F))).Forall fun op => op.writes ⊆ (ops13_W.map (Proc.devRef (τ := τ) .tc)).toFinset :=
  StableHlo.forall_writes_sub_of_map rfl
theorem ops13_sub : (ops13 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.binary_bufs_sub .., StableHlo.reshape_bufs_sub .., StableHlo.reshape_bufs_sub ..⟩
theorem ops13_fresh : (ops13 : List (HloOp τ sig (Elt F))).Forall fun op => op.fresh = ∅ :=
  ⟨rfl, rfl, rfl, rfl, rfl, rfl, rfl, rfl⟩
/-- The operations up to the even rows' weights. -/
abbrev ops14 : List (HloOp τ sig (Elt F)) :=
  [ StableHlo.unary main_arg3 main_v61 ((truncf .bf16 · bitsLt_bf16_f32) : (⟨S48x16384, .f32⟩ : BufTy).Contents (Elt F) → (⟨S48x16384, .bf16⟩ : BufTy).Contents (Elt F)),
    StableHlo.unary main_arg4 main_v62 ((truncf .bf16 · bitsLt_bf16_f32) : (⟨S48x16384, .f32⟩ : BufTy).Contents (Elt F) → (⟨S48x16384, .bf16⟩ : BufTy).Contents (Elt F)),
    StableHlo.unary main_arg2 main_v63 ((extui 32 · natLt_8_32) : (⟨S3072x16384, .i8⟩ : BufTy).Contents (Elt F) → (⟨S3072x16384, .i32⟩ : BufTy).Contents (Elt F)),
    StableHlo.nullary main_c (constantI S_ 32 15#32),
    StableHlo.unary main_c main_v64 (broadcastInDim S3072x16384 ![] bcast_S_S3072x16384 : (⟨S_, .i32⟩ : BufTy).Contents (Elt F) → (⟨S3072x16384, .i32⟩ : BufTy).Contents (Elt F)),
    StableHlo.binary main_v63 main_v64 main_v65 (andi : (⟨S3072x16384, .i32⟩ : BufTy).Contents (Elt F) → (⟨S3072x16384, .i32⟩ : BufTy).Contents (Elt F) → (⟨S3072x16384, .i32⟩ : BufTy).Contents (Elt F)),
    StableHlo.unary main_v65 main_v66 (sitofp .f32 : (⟨S3072x16384, .i32⟩ : BufTy).Contents (Elt F) → (⟨S3072x16384, .f32⟩ : BufTy).Contents (Elt F)),
    StableHlo.unary main_v66 main_v67 ((truncf .bf16 · bitsLt_bf16_f32) : (⟨S3072x16384, .f32⟩ : BufTy).Contents (Elt F) → (⟨S3072x16384, .bf16⟩ : BufTy).Contents (Elt F)),
    StableHlo.reshape main_v67 main_v68 (rfl : (.bf16 : EltTy) = .bf16) shapeCasts_S3072x16384_S48x64x16384,
    StableHlo.unary main_v62 main_v69 (broadcastInDim S48x1x16384 ![0, 2] bcast_S48x16384_S48x1x16384_0_2 : (⟨S48x16384, .bf16⟩ : BufTy).Contents (Elt F) → (⟨S48x1x16384, .bf16⟩ : BufTy).Contents (Elt F)),
    StableHlo.unary main_v69 main_v70 (broadcastInDim S48x64x16384 ![0, 1, 2] bcast_S48x1x16384_S48x64x16384_0_1_2 : (⟨S48x1x16384, .bf16⟩ : BufTy).Contents (Elt F) → (⟨S48x64x16384, .bf16⟩ : BufTy).Contents (Elt F)),
    StableHlo.binary main_v68 main_v70 main_v71 (subf : (⟨S48x64x16384, .bf16⟩ : BufTy).Contents (Elt F) → (⟨S48x64x16384, .bf16⟩ : BufTy).Contents (Elt F) → (⟨S48x64x16384, .bf16⟩ : BufTy).Contents (Elt F)),
    StableHlo.unary main_v61 main_v72 (broadcastInDim S48x1x16384 ![0, 2] bcast_S48x16384_S48x1x16384_0_2 : (⟨S48x16384, .bf16⟩ : BufTy).Contents (Elt F) → (⟨S48x1x16384, .bf16⟩ : BufTy).Contents (Elt F)),
    StableHlo.unary main_v72 main_v73 (broadcastInDim S48x64x16384 ![0, 1, 2] bcast_S48x1x16384_S48x64x16384_0_1_2 : (⟨S48x1x16384, .bf16⟩ : BufTy).Contents (Elt F) → (⟨S48x64x16384, .bf16⟩ : BufTy).Contents (Elt F)),
    StableHlo.binary main_v71 main_v73 main_v74 (mulf : (⟨S48x64x16384, .bf16⟩ : BufTy).Contents (Elt F) → (⟨S48x64x16384, .bf16⟩ : BufTy).Contents (Elt F) → (⟨S48x64x16384, .bf16⟩ : BufTy).Contents (Elt F)),
    StableHlo.reshape main_v74 main_v75 (rfl : (.bf16 : EltTy) = .bf16) shapeCasts_S48x64x16384_S3072x16384 ]
/-- What they write. -/
abbrev ops14_W : List (Ref sig .tc) := [main_v61, main_v62, main_v63, main_c, main_v64, main_v65, main_v66, main_v67, main_v68, main_v69, main_v70, main_v71, main_v72, main_v73, main_v74, main_v75]
theorem ops14_writes : (ops14 : List (HloOp τ sig (Elt F))).Forall fun op => op.writes ⊆ (ops14_W.map (Proc.devRef (τ := τ) .tc)).toFinset :=
  StableHlo.forall_writes_sub_of_map rfl
theorem ops14_sub : (ops14 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub ..⟩
theorem ops14_fresh : (ops14 : List (HloOp τ sig (Elt F))).Forall fun op => op.fresh = ∅ :=
  ⟨rfl, rfl, rfl, rfl, rfl, rfl, rfl, rfl, rfl, rfl, rfl, rfl, rfl, rfl, rfl, rfl⟩
/-- The operations up to the odd rows' weights. -/
abbrev ops15 : List (HloOp τ sig (Elt F)) :=
  [ StableHlo.unary main_arg2 main_v76 ((extui 32 · natLt_8_32) : (⟨S3072x16384, .i8⟩ : BufTy).Contents (Elt F) → (⟨S3072x16384, .i32⟩ : BufTy).Contents (Elt F)),
    StableHlo.nullary main_c_11 (constantI S_ 32 4#32),
    StableHlo.unary main_c_11 main_v77 (broadcastInDim S3072x16384 ![] bcast_S_S3072x16384 : (⟨S_, .i32⟩ : BufTy).Contents (Elt F) → (⟨S3072x16384, .i32⟩ : BufTy).Contents (Elt F)),
    StableHlo.binary main_v76 main_v77 main_v78 (Host.shrsi : (⟨S3072x16384, .i32⟩ : BufTy).Contents (Elt F) → (⟨S3072x16384, .i32⟩ : BufTy).Contents (Elt F) → (⟨S3072x16384, .i32⟩ : BufTy).Contents (Elt F)),
    StableHlo.unary main_v78 main_v79 (sitofp .f32 : (⟨S3072x16384, .i32⟩ : BufTy).Contents (Elt F) → (⟨S3072x16384, .f32⟩ : BufTy).Contents (Elt F)),
    StableHlo.unary main_v79 main_v80 ((truncf .bf16 · bitsLt_bf16_f32) : (⟨S3072x16384, .f32⟩ : BufTy).Contents (Elt F) → (⟨S3072x16384, .bf16⟩ : BufTy).Contents (Elt F)),
    StableHlo.reshape main_v80 main_v81 (rfl : (.bf16 : EltTy) = .bf16) shapeCasts_S3072x16384_S48x64x16384,
    StableHlo.unary main_v62 main_v82 (broadcastInDim S48x1x16384 ![0, 2] bcast_S48x16384_S48x1x16384_0_2 : (⟨S48x16384, .bf16⟩ : BufTy).Contents (Elt F) → (⟨S48x1x16384, .bf16⟩ : BufTy).Contents (Elt F)),
    StableHlo.unary main_v82 main_v83 (broadcastInDim S48x64x16384 ![0, 1, 2] bcast_S48x1x16384_S48x64x16384_0_1_2 : (⟨S48x1x16384, .bf16⟩ : BufTy).Contents (Elt F) → (⟨S48x64x16384, .bf16⟩ : BufTy).Contents (Elt F)),
    StableHlo.binary main_v81 main_v83 main_v84 (subf : (⟨S48x64x16384, .bf16⟩ : BufTy).Contents (Elt F) → (⟨S48x64x16384, .bf16⟩ : BufTy).Contents (Elt F) → (⟨S48x64x16384, .bf16⟩ : BufTy).Contents (Elt F)),
    StableHlo.unary main_v61 main_v85 (broadcastInDim S48x1x16384 ![0, 2] bcast_S48x16384_S48x1x16384_0_2 : (⟨S48x16384, .bf16⟩ : BufTy).Contents (Elt F) → (⟨S48x1x16384, .bf16⟩ : BufTy).Contents (Elt F)),
    StableHlo.unary main_v85 main_v86 (broadcastInDim S48x64x16384 ![0, 1, 2] bcast_S48x1x16384_S48x64x16384_0_1_2 : (⟨S48x1x16384, .bf16⟩ : BufTy).Contents (Elt F) → (⟨S48x64x16384, .bf16⟩ : BufTy).Contents (Elt F)),
    StableHlo.binary main_v84 main_v86 main_v87 (mulf : (⟨S48x64x16384, .bf16⟩ : BufTy).Contents (Elt F) → (⟨S48x64x16384, .bf16⟩ : BufTy).Contents (Elt F) → (⟨S48x64x16384, .bf16⟩ : BufTy).Contents (Elt F)),
    StableHlo.reshape main_v87 main_v88 (rfl : (.bf16 : EltTy) = .bf16) shapeCasts_S48x64x16384_S3072x16384 ]
/-- What they write. -/
abbrev ops15_W : List (Ref sig .tc) := [main_v76, main_c_11, main_v77, main_v78, main_v79, main_v80, main_v81, main_v82, main_v83, main_v84, main_v85, main_v86, main_v87, main_v88]
theorem ops15_writes : (ops15 : List (HloOp τ sig (Elt F))).Forall fun op => op.writes ⊆ (ops15_W.map (Proc.devRef (τ := τ) .tc)).toFinset :=
  StableHlo.forall_writes_sub_of_map rfl
theorem ops15_sub : (ops15 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub ..⟩
theorem ops15_fresh : (ops15 : List (HloOp τ sig (Elt F))).Forall fun op => op.fresh = ∅ :=
  ⟨rfl, rfl, rfl, rfl, rfl, rfl, rfl, rfl, rfl, rfl, rfl, rfl, rfl, rfl⟩
/-- The operations up to the draft product. -/
abbrev ops16 : List (HloOp τ sig (Elt F)) :=
  [ StableHlo.binary main_v43 main_v75 main_v89 ((fun l r => Host.dotGeneral dot_S3x1024x3072_S3072x16384_S3x1024x16384_2_0_01_1_n_n none l r) : (⟨S3x1024x3072, .bf16⟩ : BufTy).Contents (Elt F) → (⟨S3072x16384, .bf16⟩ : BufTy).Contents (Elt F) → (⟨S3x1024x16384, .f32⟩ : BufTy).Contents (Elt F)),
    StableHlo.binary main_v52 main_v88 main_v90 ((fun l r => Host.dotGeneral dot_S3x1024x3072_S3072x16384_S3x1024x16384_2_0_01_1_n_n none l r) : (⟨S3x1024x3072, .bf16⟩ : BufTy).Contents (Elt F) → (⟨S3072x16384, .bf16⟩ : BufTy).Contents (Elt F) → (⟨S3x1024x16384, .f32⟩ : BufTy).Contents (Elt F)),
    StableHlo.binary main_v89 main_v90 main_v91 (addf : (⟨S3x1024x16384, .f32⟩ : BufTy).Contents (Elt F) → (⟨S3x1024x16384, .f32⟩ : BufTy).Contents (Elt F) → (⟨S3x1024x16384, .f32⟩ : BufTy).Contents (Elt F)),
    StableHlo.unary main_v18 main_v92 (broadcastInDim S3x1024x1 ![0, 1] bcast_S3x1024_S3x1024x1_0_1 : (⟨S3x1024, .f32⟩ : BufTy).Contents (Elt F) → (⟨S3x1024x1, .f32⟩ : BufTy).Contents (Elt F)),
    StableHlo.unary main_v92 main_v93 (broadcastInDim S3x1024x16384 ![0, 1, 2] bcast_S3x1024x1_S3x1024x16384_0_1_2 : (⟨S3x1024x1, .f32⟩ : BufTy).Contents (Elt F) → (⟨S3x1024x16384, .f32⟩ : BufTy).Contents (Elt F)),
    StableHlo.binary main_v91 main_v93 main_v94 (mulf : (⟨S3x1024x16384, .f32⟩ : BufTy).Contents (Elt F) → (⟨S3x1024x16384, .f32⟩ : BufTy).Contents (Elt F) → (⟨S3x1024x16384, .f32⟩ : BufTy).Contents (Elt F)),
    StableHlo.unary main_v94 main_v95 ((truncf .bf16 · bitsLt_bf16_f32) : (⟨S3x1024x16384, .f32⟩ : BufTy).Contents (Elt F) → (⟨S3x1024x16384, .bf16⟩ : BufTy).Contents (Elt F)) ]
/-- What they write. -/
abbrev ops16_W : List (Ref sig .tc) := [main_v89, main_v90, main_v91, main_v92, main_v93, main_v94, main_v95]
theorem ops16_writes : (ops16 : List (HloOp τ sig (Elt F))).Forall fun op => op.writes ⊆ (ops16_W.map (Proc.devRef (τ := τ) .tc)).toFinset :=
  StableHlo.forall_writes_sub_of_map rfl
theorem ops16_sub : (ops16 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub .., StableHlo.unary_bufs_sub ..⟩
theorem ops16_fresh : (ops16 : List (HloOp τ sig (Elt F))).Forall fun op => op.fresh = ∅ :=
  ⟨rfl, rfl, rfl, rfl, rfl, rfl, rfl⟩
/-- The operations up to the verify product. -/
abbrev ops17 : List (HloOp τ sig (Elt F)) :=
  [ StableHlo.unary main_v59 main_v96 ((truncf .bf16 · bitsLt_bf16_f32) : (⟨S3x1024x3072, .f32⟩ : BufTy).Contents (Elt F) → (⟨S3x1024x3072, .bf16⟩ : BufTy).Contents (Elt F)),
    StableHlo.binary main_v96 main_v75 main_v97 ((fun l r => Host.dotGeneral dot_S3x1024x3072_S3072x16384_S3x1024x16384_2_0_01_1_n_n none l r) : (⟨S3x1024x3072, .bf16⟩ : BufTy).Contents (Elt F) → (⟨S3072x16384, .bf16⟩ : BufTy).Contents (Elt F) → (⟨S3x1024x16384, .f32⟩ : BufTy).Contents (Elt F)),
    StableHlo.unary main_v60 main_v98 ((truncf .bf16 · bitsLt_bf16_f32) : (⟨S3x1024x3072, .f32⟩ : BufTy).Contents (Elt F) → (⟨S3x1024x3072, .bf16⟩ : BufTy).Contents (Elt F)),
    StableHlo.binary main_v98 main_v88 main_v99 ((fun l r => Host.dotGeneral dot_S3x1024x3072_S3072x16384_S3x1024x16384_2_0_01_1_n_n none l r) : (⟨S3x1024x3072, .bf16⟩ : BufTy).Contents (Elt F) → (⟨S3072x16384, .bf16⟩ : BufTy).Contents (Elt F) → (⟨S3x1024x16384, .f32⟩ : BufTy).Contents (Elt F)),
    StableHlo.binary main_v97 main_v99 main_v100 (addf : (⟨S3x1024x16384, .f32⟩ : BufTy).Contents (Elt F) → (⟨S3x1024x16384, .f32⟩ : BufTy).Contents (Elt F) → (⟨S3x1024x16384, .f32⟩ : BufTy).Contents (Elt F)),
    StableHlo.unary main_v100 main_v101 ((truncf .bf16 · bitsLt_bf16_f32) : (⟨S3x1024x16384, .f32⟩ : BufTy).Contents (Elt F) → (⟨S3x1024x16384, .bf16⟩ : BufTy).Contents (Elt F)) ]
/-- What they write. -/
abbrev ops17_W : List (Ref sig .tc) := [main_v96, main_v97, main_v98, main_v99, main_v100, main_v101]
theorem ops17_writes : (ops17 : List (HloOp τ sig (Elt F))).Forall fun op => op.writes ⊆ (ops17_W.map (Proc.devRef (τ := τ) .tc)).toFinset :=
  StableHlo.forall_writes_sub_of_map rfl
theorem ops17_sub : (ops17 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub ..⟩
theorem ops17_fresh : (ops17 : List (HloOp τ sig (Elt F))).Forall fun op => op.fresh = ∅ :=
  ⟨rfl, rfl, rfl, rfl, rfl, rfl⟩
/-- All operations. -/
abbrev opsAll : List (HloOp τ sig (Elt F)) := ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17)))))))))))))))))
theorem opsAll_sub : (opsAll : List (HloOp τ sig (Elt F))).Forall fun op => op.bufs ⊆ StableHlo.tcRefs τ sig := by
  simp only [opsAll, List.forall_append]
  exact ⟨ops0_sub, ops1_sub, ops2_sub, ops3_sub, ops4_sub, ops5_sub, ops6_sub, ops7_sub, ops8_sub, ops9_sub, ops10_sub, ops11_sub, ops12_sub, ops13_sub, ops14_sub, ops15_sub, ops16_sub, ops17_sub⟩
theorem opsAll_fresh : (opsAll : List (HloOp τ sig (Elt F))).Forall fun op => op.fresh = ∅ := by
  simp only [opsAll, List.forall_append]
  exact ⟨ops0_fresh, ops1_fresh, ops2_fresh, ops3_fresh, ops4_fresh, ops5_fresh, ops6_fresh, ops7_fresh, ops8_fresh, ops9_fresh, ops10_fresh, ops11_fresh, ops12_fresh, ops13_fresh, ops14_fresh, ops15_fresh, ops16_fresh, ops17_fresh⟩
/-- The reference is those operations in order. -/
theorem main_seq (d : Dev nD) : StableHlo.IsSeq (main (F := F) d) opsAll := by
  exact rfl
end Cert.Proof.Ref
end
-- ==== Proof.RefStages.lean ====
/- The buffers' contents after each stretch of the reference's operations. -/
module
public import proofs.«01_k».proof.Proof.RefOps
@[expose] public section
set_option maxRecDepth 16384
noncomputable section
namespace Cert.Proof.Ref
open Idealize.ShloMosaic Idealize.SL.Sem
open Cert.ReferenceIdeal Cert.ReferenceIdeal.Gen

variable (V : Valuation τ sig (Elt Ideal))
/-- The contents after stretch 0. -/
def U1 : Valuation τ sig (Elt Ideal) := StableHlo.after (ops0 (F := Ideal)) V
theorem U1_of (r : Ref sig .tc) (h : r ∉ ops0_W) : U1 V (Proc.devRef .tc r) = V (Proc.devRef .tc r) :=
  StableHlo.after_of_writes_sub ops0 _ ops0_writes h
/-- The contents after stretch 1. -/
def U2 : Valuation τ sig (Elt Ideal) := StableHlo.after (ops1 (F := Ideal)) (U1 V)
theorem U2_of (r : Ref sig .tc) (h : r ∉ ops1_W) : U2 V (Proc.devRef .tc r) = (U1 V) (Proc.devRef .tc r) :=
  StableHlo.after_of_writes_sub ops1 _ ops1_writes h
/-- The contents after stretch 2. -/
def U3 : Valuation τ sig (Elt Ideal) := StableHlo.after (ops2 (F := Ideal)) (U2 V)
theorem U3_of (r : Ref sig .tc) (h : r ∉ ops2_W) : U3 V (Proc.devRef .tc r) = (U2 V) (Proc.devRef .tc r) :=
  StableHlo.after_of_writes_sub ops2 _ ops2_writes h
/-- The contents after stretch 3. -/
def U4 : Valuation τ sig (Elt Ideal) := StableHlo.after (ops3 (F := Ideal)) (U3 V)
theorem U4_of (r : Ref sig .tc) (h : r ∉ ops3_W) : U4 V (Proc.devRef .tc r) = (U3 V) (Proc.devRef .tc r) :=
  StableHlo.after_of_writes_sub ops3 _ ops3_writes h
/-- The contents after stretch 4. -/
def U5 : Valuation τ sig (Elt Ideal) := StableHlo.after (ops4 (F := Ideal)) (U4 V)
theorem U5_of (r : Ref sig .tc) (h : r ∉ ops4_W) : U5 V (Proc.devRef .tc r) = (U4 V) (Proc.devRef .tc r) :=
  StableHlo.after_of_writes_sub ops4 _ ops4_writes h
/-- The contents after stretch 5. -/
def U6 : Valuation τ sig (Elt Ideal) := StableHlo.after (ops5 (F := Ideal)) (U5 V)
theorem U6_of (r : Ref sig .tc) (h : r ∉ ops5_W) : U6 V (Proc.devRef .tc r) = (U5 V) (Proc.devRef .tc r) :=
  StableHlo.after_of_writes_sub ops5 _ ops5_writes h
/-- The contents after stretch 6. -/
def U7 : Valuation τ sig (Elt Ideal) := StableHlo.after (ops6 (F := Ideal)) (U6 V)
theorem U7_of (r : Ref sig .tc) (h : r ∉ ops6_W) : U7 V (Proc.devRef .tc r) = (U6 V) (Proc.devRef .tc r) :=
  StableHlo.after_of_writes_sub ops6 _ ops6_writes h
/-- The contents after stretch 7. -/
def U8 : Valuation τ sig (Elt Ideal) := StableHlo.after (ops7 (F := Ideal)) (U7 V)
theorem U8_of (r : Ref sig .tc) (h : r ∉ ops7_W) : U8 V (Proc.devRef .tc r) = (U7 V) (Proc.devRef .tc r) :=
  StableHlo.after_of_writes_sub ops7 _ ops7_writes h
/-- The contents after stretch 8. -/
def U9 : Valuation τ sig (Elt Ideal) := StableHlo.after (ops8 (F := Ideal)) (U8 V)
theorem U9_of (r : Ref sig .tc) (h : r ∉ ops8_W) : U9 V (Proc.devRef .tc r) = (U8 V) (Proc.devRef .tc r) :=
  StableHlo.after_of_writes_sub ops8 _ ops8_writes h
/-- The contents after stretch 9. -/
def U10 : Valuation τ sig (Elt Ideal) := StableHlo.after (ops9 (F := Ideal)) (U9 V)
theorem U10_of (r : Ref sig .tc) (h : r ∉ ops9_W) : U10 V (Proc.devRef .tc r) = (U9 V) (Proc.devRef .tc r) :=
  StableHlo.after_of_writes_sub ops9 _ ops9_writes h
/-- The contents after stretch 10. -/
def U11 : Valuation τ sig (Elt Ideal) := StableHlo.after (ops10 (F := Ideal)) (U10 V)
theorem U11_of (r : Ref sig .tc) (h : r ∉ ops10_W) : U11 V (Proc.devRef .tc r) = (U10 V) (Proc.devRef .tc r) :=
  StableHlo.after_of_writes_sub ops10 _ ops10_writes h
/-- The contents after stretch 11. -/
def U12 : Valuation τ sig (Elt Ideal) := StableHlo.after (ops11 (F := Ideal)) (U11 V)
theorem U12_of (r : Ref sig .tc) (h : r ∉ ops11_W) : U12 V (Proc.devRef .tc r) = (U11 V) (Proc.devRef .tc r) :=
  StableHlo.after_of_writes_sub ops11 _ ops11_writes h
/-- The contents after stretch 12. -/
def U13 : Valuation τ sig (Elt Ideal) := StableHlo.after (ops12 (F := Ideal)) (U12 V)
theorem U13_of (r : Ref sig .tc) (h : r ∉ ops12_W) : U13 V (Proc.devRef .tc r) = (U12 V) (Proc.devRef .tc r) :=
  StableHlo.after_of_writes_sub ops12 _ ops12_writes h
/-- The contents after stretch 13. -/
def U14 : Valuation τ sig (Elt Ideal) := StableHlo.after (ops13 (F := Ideal)) (U13 V)
theorem U14_of (r : Ref sig .tc) (h : r ∉ ops13_W) : U14 V (Proc.devRef .tc r) = (U13 V) (Proc.devRef .tc r) :=
  StableHlo.after_of_writes_sub ops13 _ ops13_writes h
/-- The contents after stretch 14. -/
def U15 : Valuation τ sig (Elt Ideal) := StableHlo.after (ops14 (F := Ideal)) (U14 V)
theorem U15_of (r : Ref sig .tc) (h : r ∉ ops14_W) : U15 V (Proc.devRef .tc r) = (U14 V) (Proc.devRef .tc r) :=
  StableHlo.after_of_writes_sub ops14 _ ops14_writes h
/-- The contents after stretch 15. -/
def U16 : Valuation τ sig (Elt Ideal) := StableHlo.after (ops15 (F := Ideal)) (U15 V)
theorem U16_of (r : Ref sig .tc) (h : r ∉ ops15_W) : U16 V (Proc.devRef .tc r) = (U15 V) (Proc.devRef .tc r) :=
  StableHlo.after_of_writes_sub ops15 _ ops15_writes h
/-- The contents after stretch 16. -/
def U17 : Valuation τ sig (Elt Ideal) := StableHlo.after (ops16 (F := Ideal)) (U16 V)
theorem U17_of (r : Ref sig .tc) (h : r ∉ ops16_W) : U17 V (Proc.devRef .tc r) = (U16 V) (Proc.devRef .tc r) :=
  StableHlo.after_of_writes_sub ops16 _ ops16_writes h
/-- The contents after stretch 17. -/
def U18 : Valuation τ sig (Elt Ideal) := StableHlo.after (ops17 (F := Ideal)) (U17 V)
theorem U18_of (r : Ref sig .tc) (h : r ∉ ops17_W) : U18 V (Proc.devRef .tc r) = (U17 V) (Proc.devRef .tc r) :=
  StableHlo.after_of_writes_sub ops17 _ ops17_writes h
end Cert.Proof.Ref
end
-- ==== Proof.RefReads.lean ====
/- Each stretch of the reference's operations, read by itself. -/
module
public import proofs.«01_k».proof.Proof.RefStages
@[expose] public section
set_option maxRecDepth 16384
noncomputable section
namespace Cert.Proof.Ref
open Idealize.ShloMosaic Idealize.SL.Sem
open Cert.ReferenceIdeal Cert.ReferenceIdeal.Gen

variable (V : Valuation τ sig (Elt Ideal))

/-! ### Each stretch, read -/

/-- A choice between contents of typed references is the choice between the contents. -/
theorem sel_cast (p : IVec S3x1024 1) (u : FVec Ideal S_ .f32) (q : FVec Ideal S3x1024 .f32) :
    (StableHlo.TRef.of main_v18 : StableHlo.TRef sig ⟨S3x1024, .f32⟩).toBuf (Val := Elt Ideal)
      (select ((StableHlo.TRef.of main_v15 : StableHlo.TRef sig ⟨S3x1024, .i1⟩).ofBuf (Val := Elt Ideal) p)
        (broadcastInDim S3x1024 ![] bcast_S_S3x1024 (id ((StableHlo.TRef.of main_cst_4 : StableHlo.TRef sig ⟨S_, .f32⟩).ofBuf (Val := Elt Ideal) u)))
        ((StableHlo.TRef.of main_v17 : StableHlo.TRef sig ⟨S3x1024, .f32⟩).ofBuf (Val := Elt Ideal) q))
      = (select p (broadcastInDim S3x1024 ![] bcast_S_S3x1024 (id u)) q : FVec Ideal S3x1024 .f32) := rfl
theorem U1_cst : U1 V (Proc.devRef .tc main_cst) = C0 := by
  show StableHlo.after (ops0 (F := Ideal)) (V) _ = _
  after_results_simp
  rfl
theorem U1_v0 : U1 V (Proc.devRef .tc main_v0) = KR4 C0 C0 := by
  show StableHlo.after (ops0 (F := Ideal)) (V) _ = _
  after_results_simp
  rfl
theorem U2_v1 : U2 V (Proc.devRef .tc main_v1) = KR8 (U1 V (Proc.devRef .tc main_v0)) (U1 V (Proc.devRef .tc main_cst)) := by
  show StableHlo.after (ops1 (F := Ideal)) (U1 V) _ = _
  generalize U1 V = V'
  after_results_simp
  rfl
theorem U3_v2 : U3 V (Proc.devRef .tc main_v2) = KR16 (U2 V (Proc.devRef .tc main_v1)) (U2 V (Proc.devRef .tc main_cst)) := by
  show StableHlo.after (ops2 (F := Ideal)) (U2 V) _ = _
  generalize U2 V = V'
  after_results_simp
  rfl
theorem U4_v3 : U4 V (Proc.devRef .tc main_v3) = KR32 (U3 V (Proc.devRef .tc main_v2)) (U3 V (Proc.devRef .tc main_cst)) := by
  show StableHlo.after (ops3 (F := Ideal)) (U3 V) _ = _
  generalize U3 V = V'
  after_results_simp
  rfl
theorem U5_v4 : U5 V (Proc.devRef .tc main_v4) = KR64 (U4 V (Proc.devRef .tc main_v3)) (U4 V (Proc.devRef .tc main_cst)) := by
  show StableHlo.after (ops4 (F := Ideal)) (U4 V) _ = _
  generalize U4 V = V'
  after_results_simp
  rfl
theorem U6_v5 : U6 V (Proc.devRef .tc main_v5) = KR128 (U5 V (Proc.devRef .tc main_v4)) (U5 V (Proc.devRef .tc main_cst)) := by
  show StableHlo.after (ops5 (F := Ideal)) (U5 V) _ = _
  generalize U5 V = V'
  after_results_simp
  rfl
theorem U7_v7 : U7 V (Proc.devRef .tc main_v7) = HAD (U6 V (Proc.devRef .tc main_v5)) := by
  show StableHlo.after (ops6 (F := Ideal)) (U6 V) _ = _
  generalize U6 V = V'
  after_results_simp
  rfl
theorem U8_v11 : U8 V (Proc.devRef .tc main_v11) = RROT (U7 V (Proc.devRef .tc main_arg0)) (U7 V (Proc.devRef .tc main_v7)) := by
  show StableHlo.after (ops7 (F := Ideal)) (U7 V) _ = _
  generalize U7 V = V'
  after_results_simp
  rfl
theorem U9_v13 : U9 V (Proc.devRef .tc main_v13) = RAMX (U8 V (Proc.devRef .tc main_v11)) := by
  show StableHlo.after (ops8 (F := Ideal)) (U8 V) _ = _
  generalize U8 V = V'
  after_results_simp
  rfl
theorem U10_v18 : U10 V (Proc.devRef .tc main_v18) = RSCL (U9 V (Proc.devRef .tc main_v13)) := by
  show StableHlo.after (ops9 (F := Ideal)) (U9 V) _ = _
  generalize U9 V = V'
  after_results_simp
  simp only [StableHlo.TRef.ofBuf_toBuf]
  unfold RSCL
  exact sel_cast _ _ _
theorem U11_v25 : U11 V (Proc.devRef .tc main_v25) = RCODE (U10 V (Proc.devRef .tc main_v11)) (U10 V (Proc.devRef .tc main_v18)) := by
  show StableHlo.after (ops10 (F := Ideal)) (U10 V) _ = _
  generalize U10 V = V'
  after_results_simp
  simp only [StableHlo.TRef.ofBuf_toBuf]
  unfold RCODE
  rfl
theorem U12_v32 : U12 V (Proc.devRef .tc main_v32) = REVEN (U11 V (Proc.devRef .tc main_arg0)) (U11 V (Proc.devRef .tc main_v7)) := by
  show StableHlo.after (ops11 (F := Ideal)) (U11 V) _ = _
  generalize U11 V = V'
  after_results_simp
  rfl
theorem U12_v33 : U12 V (Proc.devRef .tc main_v33) = RODD (U11 V (Proc.devRef .tc main_arg0)) (U11 V (Proc.devRef .tc main_v7)) := by
  show StableHlo.after (ops11 (F := Ideal)) (U11 V) _ = _
  generalize U11 V = V'
  after_results_simp
  rfl
theorem U13_v43 : U13 V (Proc.devRef .tc main_v43) = RHALF (U12 V (Proc.devRef .tc main_v32)) (U12 V (Proc.devRef .tc main_v18)) := by
  show StableHlo.after (ops12 (F := Ideal)) (U12 V) _ = _
  generalize U12 V = V'
  after_results_simp
  simp only [StableHlo.TRef.ofBuf_toBuf]
  unfold RHALF
  rfl
theorem U13_v52 : U13 V (Proc.devRef .tc main_v52) = RHALF (U12 V (Proc.devRef .tc main_v33)) (U12 V (Proc.devRef .tc main_v18)) := by
  show StableHlo.after (ops12 (F := Ideal)) (U12 V) _ = _
  generalize U12 V = V'
  after_results_simp
  simp only [StableHlo.TRef.ofBuf_toBuf]
  unfold RHALF
  rfl
theorem U14_v59 : U14 V (Proc.devRef .tc main_v59) = REVEN (U13 V (Proc.devRef .tc main_arg1)) (U13 V (Proc.devRef .tc main_v7)) := by
  show StableHlo.after (ops13 (F := Ideal)) (U13 V) _ = _
  generalize U13 V = V'
  after_results_simp
  rfl
theorem U14_v60 : U14 V (Proc.devRef .tc main_v60) = RODD (U13 V (Proc.devRef .tc main_arg1)) (U13 V (Proc.devRef .tc main_v7)) := by
  show StableHlo.after (ops13 (F := Ideal)) (U13 V) _ = _
  generalize U13 V = V'
  after_results_simp
  rfl
theorem U15_v61 : U15 V (Proc.devRef .tc main_v61) = (truncf .bf16 ((U14 V (Proc.devRef .tc main_arg3)) : FVec Ideal S48x16384 .f32) bitsLt_bf16_f32 : FVec Ideal S48x16384 .bf16) := by
  show StableHlo.after (ops14 (F := Ideal)) (U14 V) _ = _
  generalize U14 V = V'
  after_results_simp
theorem U15_v62 : U15 V (Proc.devRef .tc main_v62) = (truncf .bf16 ((U14 V (Proc.devRef .tc main_arg4)) : FVec Ideal S48x16384 .f32) bitsLt_bf16_f32 : FVec Ideal S48x16384 .bf16) := by
  show StableHlo.after (ops14 (F := Ideal)) (U14 V) _ = _
  generalize U14 V = V'
  after_results_simp
theorem U15_v75 : U15 V (Proc.devRef .tc main_v75) = RWGT (RLO (U14 V (Proc.devRef .tc main_arg2))) (U14 V (Proc.devRef .tc main_arg3)) (U14 V (Proc.devRef .tc main_arg4)) := by
  show StableHlo.after (ops14 (F := Ideal)) (U14 V) _ = _
  generalize U14 V = V'
  after_results_simp
  rfl
theorem U16_v88 : U16 V (Proc.devRef .tc main_v88) = RWGT (RHI (U15 V (Proc.devRef .tc main_arg2))) (U15 V (Proc.devRef .tc main_v61)) (U15 V (Proc.devRef .tc main_v62)) := by
  show StableHlo.after (ops15 (F := Ideal)) (U15 V) _ = _
  generalize U15 V = V'
  after_results_simp
  rfl
theorem U17_v95 : U17 V (Proc.devRef .tc main_v95) = RYD (RACC (U16 V (Proc.devRef .tc main_v43)) (U16 V (Proc.devRef .tc main_v52)) (U16 V (Proc.devRef .tc main_v75)) (U16 V (Proc.devRef .tc main_v88))) (U16 V (Proc.devRef .tc main_v18)) := by
  show StableHlo.after (ops16 (F := Ideal)) (U16 V) _ = _
  generalize U16 V = V'
  after_results_simp
  rfl
theorem U18_v101 : U18 V (Proc.devRef .tc main_v101) = (truncf .bf16 (RACC (truncf .bf16 ((U17 V (Proc.devRef .tc main_v59)) : FVec Ideal S3x1024x3072 .f32) bitsLt_bf16_f32) (truncf .bf16 ((U17 V (Proc.devRef .tc main_v60)) : FVec Ideal S3x1024x3072 .f32) bitsLt_bf16_f32) (U17 V (Proc.devRef .tc main_v75)) (U17 V (Proc.devRef .tc main_v88))) bitsLt_bf16_f32 : FVec Ideal S3x1024x16384 .bf16) := by
  show StableHlo.after (ops17 (F := Ideal)) (U17 V) _ = _
  generalize U17 V = V'
  after_results_simp
  rfl
end Cert.Proof.Ref
end
-- ==== Proof.RefKeeps.lean ====
/- What later stretches of the reference's operations leave as it was. -/
module
public import proofs.«01_k».proof.Proof.RefStages
@[expose] public section
set_option maxRecDepth 16384
noncomputable section
namespace Cert.Proof.Ref
open Idealize.ShloMosaic Idealize.SL.Sem
open Cert.ReferenceIdeal Cert.ReferenceIdeal.Gen

variable (V : Valuation τ sig (Elt Ideal))

/-! ### What later stretches leave -/

theorem cst_1_2 : U2 V (Proc.devRef .tc main_cst) = U1 V (Proc.devRef .tc main_cst) :=
  U2_of V main_cst (by decide)
theorem cst_2_3 : U3 V (Proc.devRef .tc main_cst) = U2 V (Proc.devRef .tc main_cst) :=
  U3_of V main_cst (by decide)
theorem cst_3_4 : U4 V (Proc.devRef .tc main_cst) = U3 V (Proc.devRef .tc main_cst) :=
  U4_of V main_cst (by decide)
theorem cst_4_5 : U5 V (Proc.devRef .tc main_cst) = U4 V (Proc.devRef .tc main_cst) :=
  U5_of V main_cst (by decide)
theorem arg0_0_7 : U7 V (Proc.devRef .tc main_arg0) = V (Proc.devRef .tc main_arg0) :=
  (U7_of V main_arg0 (by decide)).trans <| (U6_of V main_arg0 (by decide)).trans <| (U5_of V main_arg0 (by decide)).trans <| (U4_of V main_arg0 (by decide)).trans <| (U3_of V main_arg0 (by decide)).trans <| (U2_of V main_arg0 (by decide)).trans <| U1_of V main_arg0 (by decide)
theorem arg0_0_11 : U11 V (Proc.devRef .tc main_arg0) = V (Proc.devRef .tc main_arg0) :=
  (U11_of V main_arg0 (by decide)).trans <| (U10_of V main_arg0 (by decide)).trans <| (U9_of V main_arg0 (by decide)).trans <| (U8_of V main_arg0 (by decide)).trans <| (U7_of V main_arg0 (by decide)).trans <| (U6_of V main_arg0 (by decide)).trans <| (U5_of V main_arg0 (by decide)).trans <| (U4_of V main_arg0 (by decide)).trans <| (U3_of V main_arg0 (by decide)).trans <| (U2_of V main_arg0 (by decide)).trans <| U1_of V main_arg0 (by decide)
theorem arg1_0_13 : U13 V (Proc.devRef .tc main_arg1) = V (Proc.devRef .tc main_arg1) :=
  (U13_of V main_arg1 (by decide)).trans <| (U12_of V main_arg1 (by decide)).trans <| (U11_of V main_arg1 (by decide)).trans <| (U10_of V main_arg1 (by decide)).trans <| (U9_of V main_arg1 (by decide)).trans <| (U8_of V main_arg1 (by decide)).trans <| (U7_of V main_arg1 (by decide)).trans <| (U6_of V main_arg1 (by decide)).trans <| (U5_of V main_arg1 (by decide)).trans <| (U4_of V main_arg1 (by decide)).trans <| (U3_of V main_arg1 (by decide)).trans <| (U2_of V main_arg1 (by decide)).trans <| U1_of V main_arg1 (by decide)
theorem arg2_0_14 : U14 V (Proc.devRef .tc main_arg2) = V (Proc.devRef .tc main_arg2) :=
  (U14_of V main_arg2 (by decide)).trans <| (U13_of V main_arg2 (by decide)).trans <| (U12_of V main_arg2 (by decide)).trans <| (U11_of V main_arg2 (by decide)).trans <| (U10_of V main_arg2 (by decide)).trans <| (U9_of V main_arg2 (by decide)).trans <| (U8_of V main_arg2 (by decide)).trans <| (U7_of V main_arg2 (by decide)).trans <| (U6_of V main_arg2 (by decide)).trans <| (U5_of V main_arg2 (by decide)).trans <| (U4_of V main_arg2 (by decide)).trans <| (U3_of V main_arg2 (by decide)).trans <| (U2_of V main_arg2 (by decide)).trans <| U1_of V main_arg2 (by decide)
theorem arg3_0_14 : U14 V (Proc.devRef .tc main_arg3) = V (Proc.devRef .tc main_arg3) :=
  (U14_of V main_arg3 (by decide)).trans <| (U13_of V main_arg3 (by decide)).trans <| (U12_of V main_arg3 (by decide)).trans <| (U11_of V main_arg3 (by decide)).trans <| (U10_of V main_arg3 (by decide)).trans <| (U9_of V main_arg3 (by decide)).trans <| (U8_of V main_arg3 (by decide)).trans <| (U7_of V main_arg3 (by decide)).trans <| (U6_of V main_arg3 (by decide)).trans <| (U5_of V main_arg3 (by decide)).trans <| (U4_of V main_arg3 (by decide)).trans <| (U3_of V main_arg3 (by decide)).trans <| (U2_of V main_arg3 (by decide)).trans <| U1_of V main_arg3 (by decide)
theorem arg4_0_14 : U14 V (Proc.devRef .tc main_arg4) = V (Proc.devRef .tc main_arg4) :=
  (U14_of V main_arg4 (by decide)).trans <| (U13_of V main_arg4 (by decide)).trans <| (U12_of V main_arg4 (by decide)).trans <| (U11_of V main_arg4 (by decide)).trans <| (U10_of V main_arg4 (by decide)).trans <| (U9_of V main_arg4 (by decide)).trans <| (U8_of V main_arg4 (by decide)).trans <| (U7_of V main_arg4 (by decide)).trans <| (U6_of V main_arg4 (by decide)).trans <| (U5_of V main_arg4 (by decide)).trans <| (U4_of V main_arg4 (by decide)).trans <| (U3_of V main_arg4 (by decide)).trans <| (U2_of V main_arg4 (by decide)).trans <| U1_of V main_arg4 (by decide)
theorem arg2_0_15 : U15 V (Proc.devRef .tc main_arg2) = V (Proc.devRef .tc main_arg2) :=
  (U15_of V main_arg2 (by decide)).trans <| (U14_of V main_arg2 (by decide)).trans <| (U13_of V main_arg2 (by decide)).trans <| (U12_of V main_arg2 (by decide)).trans <| (U11_of V main_arg2 (by decide)).trans <| (U10_of V main_arg2 (by decide)).trans <| (U9_of V main_arg2 (by decide)).trans <| (U8_of V main_arg2 (by decide)).trans <| (U7_of V main_arg2 (by decide)).trans <| (U6_of V main_arg2 (by decide)).trans <| (U5_of V main_arg2 (by decide)).trans <| (U4_of V main_arg2 (by decide)).trans <| (U3_of V main_arg2 (by decide)).trans <| (U2_of V main_arg2 (by decide)).trans <| U1_of V main_arg2 (by decide)
theorem arg0_0_18 : U18 V (Proc.devRef .tc main_arg0) = V (Proc.devRef .tc main_arg0) :=
  (U18_of V main_arg0 (by decide)).trans <| (U17_of V main_arg0 (by decide)).trans <| (U16_of V main_arg0 (by decide)).trans <| (U15_of V main_arg0 (by decide)).trans <| (U14_of V main_arg0 (by decide)).trans <| (U13_of V main_arg0 (by decide)).trans <| (U12_of V main_arg0 (by decide)).trans <| (U11_of V main_arg0 (by decide)).trans <| (U10_of V main_arg0 (by decide)).trans <| (U9_of V main_arg0 (by decide)).trans <| (U8_of V main_arg0 (by decide)).trans <| (U7_of V main_arg0 (by decide)).trans <| (U6_of V main_arg0 (by decide)).trans <| (U5_of V main_arg0 (by decide)).trans <| (U4_of V main_arg0 (by decide)).trans <| (U3_of V main_arg0 (by decide)).trans <| (U2_of V main_arg0 (by decide)).trans <| U1_of V main_arg0 (by decide)
theorem arg1_0_18 : U18 V (Proc.devRef .tc main_arg1) = V (Proc.devRef .tc main_arg1) :=
  (U18_of V main_arg1 (by decide)).trans <| (U17_of V main_arg1 (by decide)).trans <| (U16_of V main_arg1 (by decide)).trans <| (U15_of V main_arg1 (by decide)).trans <| (U14_of V main_arg1 (by decide)).trans <| (U13_of V main_arg1 (by decide)).trans <| (U12_of V main_arg1 (by decide)).trans <| (U11_of V main_arg1 (by decide)).trans <| (U10_of V main_arg1 (by decide)).trans <| (U9_of V main_arg1 (by decide)).trans <| (U8_of V main_arg1 (by decide)).trans <| (U7_of V main_arg1 (by decide)).trans <| (U6_of V main_arg1 (by decide)).trans <| (U5_of V main_arg1 (by decide)).trans <| (U4_of V main_arg1 (by decide)).trans <| (U3_of V main_arg1 (by decide)).trans <| (U2_of V main_arg1 (by decide)).trans <| U1_of V main_arg1 (by decide)
theorem arg2_0_18 : U18 V (Proc.devRef .tc main_arg2) = V (Proc.devRef .tc main_arg2) :=
  (U18_of V main_arg2 (by decide)).trans <| (U17_of V main_arg2 (by decide)).trans <| (U16_of V main_arg2 (by decide)).trans <| (U15_of V main_arg2 (by decide)).trans <| (U14_of V main_arg2 (by decide)).trans <| (U13_of V main_arg2 (by decide)).trans <| (U12_of V main_arg2 (by decide)).trans <| (U11_of V main_arg2 (by decide)).trans <| (U10_of V main_arg2 (by decide)).trans <| (U9_of V main_arg2 (by decide)).trans <| (U8_of V main_arg2 (by decide)).trans <| (U7_of V main_arg2 (by decide)).trans <| (U6_of V main_arg2 (by decide)).trans <| (U5_of V main_arg2 (by decide)).trans <| (U4_of V main_arg2 (by decide)).trans <| (U3_of V main_arg2 (by decide)).trans <| (U2_of V main_arg2 (by decide)).trans <| U1_of V main_arg2 (by decide)
theorem arg3_0_18 : U18 V (Proc.devRef .tc main_arg3) = V (Proc.devRef .tc main_arg3) :=
  (U18_of V main_arg3 (by decide)).trans <| (U17_of V main_arg3 (by decide)).trans <| (U16_of V main_arg3 (by decide)).trans <| (U15_of V main_arg3 (by decide)).trans <| (U14_of V main_arg3 (by decide)).trans <| (U13_of V main_arg3 (by decide)).trans <| (U12_of V main_arg3 (by decide)).trans <| (U11_of V main_arg3 (by decide)).trans <| (U10_of V main_arg3 (by decide)).trans <| (U9_of V main_arg3 (by decide)).trans <| (U8_of V main_arg3 (by decide)).trans <| (U7_of V main_arg3 (by decide)).trans <| (U6_of V main_arg3 (by decide)).trans <| (U5_of V main_arg3 (by decide)).trans <| (U4_of V main_arg3 (by decide)).trans <| (U3_of V main_arg3 (by decide)).trans <| (U2_of V main_arg3 (by decide)).trans <| U1_of V main_arg3 (by decide)
theorem arg4_0_18 : U18 V (Proc.devRef .tc main_arg4) = V (Proc.devRef .tc main_arg4) :=
  (U18_of V main_arg4 (by decide)).trans <| (U17_of V main_arg4 (by decide)).trans <| (U16_of V main_arg4 (by decide)).trans <| (U15_of V main_arg4 (by decide)).trans <| (U14_of V main_arg4 (by decide)).trans <| (U13_of V main_arg4 (by decide)).trans <| (U12_of V main_arg4 (by decide)).trans <| (U11_of V main_arg4 (by decide)).trans <| (U10_of V main_arg4 (by decide)).trans <| (U9_of V main_arg4 (by decide)).trans <| (U8_of V main_arg4 (by decide)).trans <| (U7_of V main_arg4 (by decide)).trans <| (U6_of V main_arg4 (by decide)).trans <| (U5_of V main_arg4 (by decide)).trans <| (U4_of V main_arg4 (by decide)).trans <| (U3_of V main_arg4 (by decide)).trans <| (U2_of V main_arg4 (by decide)).trans <| U1_of V main_arg4 (by decide)
theorem v7_7_11 : U11 V (Proc.devRef .tc main_v7) = U7 V (Proc.devRef .tc main_v7) :=
  (U11_of V main_v7 (by decide)).trans <| (U10_of V main_v7 (by decide)).trans <| (U9_of V main_v7 (by decide)).trans <| U8_of V main_v7 (by decide)
theorem v7_7_13 : U13 V (Proc.devRef .tc main_v7) = U7 V (Proc.devRef .tc main_v7) :=
  (U13_of V main_v7 (by decide)).trans <| (U12_of V main_v7 (by decide)).trans <| (U11_of V main_v7 (by decide)).trans <| (U10_of V main_v7 (by decide)).trans <| (U9_of V main_v7 (by decide)).trans <| U8_of V main_v7 (by decide)
theorem v11_8_10 : U10 V (Proc.devRef .tc main_v11) = U8 V (Proc.devRef .tc main_v11) :=
  (U10_of V main_v11 (by decide)).trans <| U9_of V main_v11 (by decide)
theorem v18_10_12 : U12 V (Proc.devRef .tc main_v18) = U10 V (Proc.devRef .tc main_v18) :=
  (U12_of V main_v18 (by decide)).trans <| U11_of V main_v18 (by decide)
theorem v18_10_16 : U16 V (Proc.devRef .tc main_v18) = U10 V (Proc.devRef .tc main_v18) :=
  (U16_of V main_v18 (by decide)).trans <| (U15_of V main_v18 (by decide)).trans <| (U14_of V main_v18 (by decide)).trans <| (U13_of V main_v18 (by decide)).trans <| (U12_of V main_v18 (by decide)).trans <| U11_of V main_v18 (by decide)
theorem v18_10_18 : U18 V (Proc.devRef .tc main_v18) = U10 V (Proc.devRef .tc main_v18) :=
  (U18_of V main_v18 (by decide)).trans <| (U17_of V main_v18 (by decide)).trans <| (U16_of V main_v18 (by decide)).trans <| (U15_of V main_v18 (by decide)).trans <| (U14_of V main_v18 (by decide)).trans <| (U13_of V main_v18 (by decide)).trans <| (U12_of V main_v18 (by decide)).trans <| U11_of V main_v18 (by decide)
theorem v25_11_18 : U18 V (Proc.devRef .tc main_v25) = U11 V (Proc.devRef .tc main_v25) :=
  (U18_of V main_v25 (by decide)).trans <| (U17_of V main_v25 (by decide)).trans <| (U16_of V main_v25 (by decide)).trans <| (U15_of V main_v25 (by decide)).trans <| (U14_of V main_v25 (by decide)).trans <| (U13_of V main_v25 (by decide)).trans <| U12_of V main_v25 (by decide)
theorem v43_13_16 : U16 V (Proc.devRef .tc main_v43) = U13 V (Proc.devRef .tc main_v43) :=
  (U16_of V main_v43 (by decide)).trans <| (U15_of V main_v43 (by decide)).trans <| U14_of V main_v43 (by decide)
theorem v52_13_16 : U16 V (Proc.devRef .tc main_v52) = U13 V (Proc.devRef .tc main_v52) :=
  (U16_of V main_v52 (by decide)).trans <| (U15_of V main_v52 (by decide)).trans <| U14_of V main_v52 (by decide)
theorem v59_14_17 : U17 V (Proc.devRef .tc main_v59) = U14 V (Proc.devRef .tc main_v59) :=
  (U17_of V main_v59 (by decide)).trans <| (U16_of V main_v59 (by decide)).trans <| U15_of V main_v59 (by decide)
theorem v60_14_17 : U17 V (Proc.devRef .tc main_v60) = U14 V (Proc.devRef .tc main_v60) :=
  (U17_of V main_v60 (by decide)).trans <| (U16_of V main_v60 (by decide)).trans <| U15_of V main_v60 (by decide)
theorem v75_15_16 : U16 V (Proc.devRef .tc main_v75) = U15 V (Proc.devRef .tc main_v75) :=
  U16_of V main_v75 (by decide)
theorem v75_15_17 : U17 V (Proc.devRef .tc main_v75) = U15 V (Proc.devRef .tc main_v75) :=
  (U17_of V main_v75 (by decide)).trans <| U16_of V main_v75 (by decide)
theorem v88_16_17 : U17 V (Proc.devRef .tc main_v88) = U16 V (Proc.devRef .tc main_v88) :=
  U17_of V main_v88 (by decide)
theorem v95_17_18 : U18 V (Proc.devRef .tc main_v95) = U17 V (Proc.devRef .tc main_v95) :=
  U18_of V main_v95 (by decide)
end Cert.Proof.Ref
end
-- ==== Proof.RefRun.lean ====
/- The reference's run: its results are the named terms of its arguments. -/
module
public import proofs.«01_k».proof.Proof.RefReads
public import proofs.«01_k».proof.Proof.RefKeeps
@[expose] public section
set_option maxRecDepth 16384
noncomputable section
namespace Cert.Proof.Ref
open Idealize.ShloMosaic Idealize.SL.Sem
open Cert.ReferenceIdeal Cert.ReferenceIdeal.Gen

variable (V : Valuation τ sig (Elt Ideal))

/-! ### The results -/

theorem sgn : U6 V (Proc.devRef .tc main_v5) = SGN := by
  rw [U6_v5, U5_v4, U4_v3, U3_v2, U2_v1, U1_v0, cst_4_5, cst_3_4, cst_2_3, cst_1_2, U1_cst]
  rfl
theorem had : U7 V (Proc.devRef .tc main_v7) = HAD SGN := by rw [U7_v7, sgn]
theorem rot : U8 V (Proc.devRef .tc main_v11) = RROT (V (Proc.devRef .tc main_arg0)) (HAD SGN) := by rw [U8_v11, had, arg0_0_7]
theorem scl : U10 V (Proc.devRef .tc main_v18) = scale (V (Proc.devRef .tc main_arg0)) := by
  rw [U10_v18, U9_v13, rot]
  rfl
theorem r_scale : U18 V (Proc.devRef .tc main_v18) = scale (V (Proc.devRef .tc main_arg0)) := (v18_10_18 V).trans (scl V)
theorem r_codes : U18 V (Proc.devRef .tc main_v25) = codes (V (Proc.devRef .tc main_arg0)) := by
  rw [v25_11_18, U11_v25, v11_8_10, rot, scl]
  rfl
theorem wlo : U15 V (Proc.devRef .tc main_v75) = RWGT (RLO (V (Proc.devRef .tc main_arg2))) (V (Proc.devRef .tc main_arg3)) (V (Proc.devRef .tc main_arg4)) := by rw [U15_v75, arg2_0_14, arg3_0_14, arg4_0_14]
theorem whi : U16 V (Proc.devRef .tc main_v88) = RWGT (RHI (V (Proc.devRef .tc main_arg2))) (V (Proc.devRef .tc main_arg3)) (V (Proc.devRef .tc main_arg4)) := by
  rw [U16_v88, U15_v61, U15_v62, arg2_0_15, arg3_0_14, arg4_0_14]
  rfl
theorem r_yDraft : U18 V (Proc.devRef .tc main_v95) = yDraft (V (Proc.devRef .tc main_arg0)) (V (Proc.devRef .tc main_arg2)) (V (Proc.devRef .tc main_arg3)) (V (Proc.devRef .tc main_arg4)) := by
  rw [v95_17_18, U17_v95, v43_13_16, v52_13_16, v75_15_16, v18_10_16, U13_v43, U13_v52, v18_10_12, U12_v32, U12_v33, arg0_0_11, v7_7_11, had, wlo, whi, scl]
  rfl
theorem r_yVerify : U18 V (Proc.devRef .tc main_v101) = yVerify (V (Proc.devRef .tc main_arg1)) (V (Proc.devRef .tc main_arg2)) (V (Proc.devRef .tc main_arg3)) (V (Proc.devRef .tc main_arg4)) := by
  rw [U18_v101, v59_14_17, v60_14_17, v75_15_17, v88_16_17, U14_v59, U14_v60, arg1_0_13, v7_7_13, had, wlo, whi]
  rfl

set_option maxHeartbeats 4000000 in
/-- The reference's run: its results are those terms of its arguments. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v18) = scale (m ((c.tc : Thread nD τ).loc main_arg0))
      ∧ r.2.mem ((c.tc : Thread nD τ).loc main_v25) = codes (m ((c.tc : Thread nD τ).loc main_arg0))
      ∧ r.2.mem ((c.tc : Thread nD τ).loc main_v95) = yDraft (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v101) = yVerify (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (StableHlo.run_hlo (ops := opsAll) _ _ main_seq (by decide) (by decide) opsAll_sub (fun _ h => List.forall_iff_forall_mem.1 opsAll_fresh _ h) _ _) fun r hr c => ?_
  have h : ∀ b : Ref sig .tc, r.2.mem ((c.tc : Thread nD τ).loc b) = U18 (StableHlo.launchContents m c) (Proc.devRef .tc b) := fun b => by
    refine (hr c b).trans ?_
    simp only [opsAll, StableHlo.after_append]
    rfl
  exact ⟨(h _).trans (r_scale _), (h _).trans (r_codes _), (h _).trans (r_yDraft _), (h _).trans (r_yVerify _),
    (h _).trans (arg0_0_18 _), (h _).trans (arg1_0_18 _), (h _).trans (arg2_0_18 _), (h _).trans (arg3_0_18 _), (h _).trans (arg4_0_18 _)⟩
end Cert.Proof.Ref
end
-- ==== Proof.Algebraic.lean ====
/- The kernel and the reference end with equal results. -/
module
public import proofs.«01_k».proof.Proof.Match
public import proofs.«01_k».proof.Proof.KernelFrame
public import proofs.«01_k».proof.Proof.RefRun
@[expose] public section
set_option maxRecDepth 16384
noncomputable section
namespace Cert.Proof
open Idealize.ShloMosaic Idealize.SL.Sem
open Cert.KernelIdeal.Run

section
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
/-! The launch's arguments. -/
abbrev A0 : FVec Ideal Cert.ReferenceIdeal.S3x1024x6144 .bf16 := m ((c.tc : Thread Cert.KernelIdeal.nD Cert.KernelIdeal.τ).loc Cert.KernelIdeal.main_arg0)
abbrev A1 : FVec Ideal Cert.ReferenceIdeal.S3x1024x6144 .bf16 := m ((c.tc : Thread Cert.KernelIdeal.nD Cert.KernelIdeal.τ).loc Cert.KernelIdeal.main_arg1)
abbrev A2 : IVec Cert.ReferenceIdeal.S3072x16384 8 := m ((c.tc : Thread Cert.KernelIdeal.nD Cert.KernelIdeal.τ).loc Cert.KernelIdeal.main_arg2)
abbrev A3 : FVec Ideal Cert.ReferenceIdeal.S48x16384 .f32 := m ((c.tc : Thread Cert.KernelIdeal.nD Cert.KernelIdeal.τ).loc Cert.KernelIdeal.main_arg3)
abbrev A4 : FVec Ideal Cert.ReferenceIdeal.S48x16384 .f32 := m ((c.tc : Thread Cert.KernelIdeal.nD Cert.KernelIdeal.τ).loc Cert.KernelIdeal.main_arg4)
theorem k_yd : W13 m ρ c (Proc.devRef .tc Cert.KernelIdeal.main_v18) = Ref.yDraft (A0 m c) (A2 m c) (A3 m c) (A4 m c) := by
  refine (W13_v18 m ρ c).trans ?_
  rw [V12_yd]
  exact Match.yd_out (A0 m c) (A2 m c) (A3 m c) (A4 m c)
theorem k_yv : W13 m ρ c (Proc.devRef .tc Cert.KernelIdeal.main_v19) = Ref.yVerify (A1 m c) (A2 m c) (A3 m c) (A4 m c) := by
  refine (W13_v19 m ρ c).trans ?_
  rw [V12_yv]
  exact Match.yv_out (A1 m c) (A2 m c) (A3 m c) (A4 m c)
theorem k_codes : W13 m ρ c (Proc.devRef .tc Cert.KernelIdeal.main_v20) = Ref.codes (A0 m c) := by
  refine (W13_v20 m ρ c).trans ?_
  rw [V12_codes]
  exact Match.codes_out (A0 m c)
theorem k_scale : W13 m ρ c (Proc.devRef .tc Cert.KernelIdeal.main_v21) = Ref.scale (A0 m c) := by
  refine (W13_v21 m ρ c).trans ?_
  rw [V12_srow]
  exact Match.scale_out (A0 m c) _ fun p l h => rfl
end

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Ref.yDraft (A0 m c) (A2 m c) (A3 m c) (A4 m c), fun c => Ref.yVerify (A1 m c) (A2 m c) (A3 m c) (A4 m c),
    fun c => Ref.codes (A0 m c), fun c => Ref.scale (A0 m c), ?_, ?_⟩
  · exact (θ_run Cert.KernelIdeal.defs _ _).mono (fun r hr c =>
      ⟨(hr.1 c _ (mem_uc Cert.KernelIdeal.main_v18 (by decide))).trans (k_yd m g c),
       (hr.1 c _ (mem_uc Cert.KernelIdeal.main_v19 (by decide))).trans (k_yv m g c),
       (hr.1 c _ (mem_uc Cert.KernelIdeal.main_v20 (by decide))).trans (k_codes m g c),
       (hr.1 c _ (mem_uc Cert.KernelIdeal.main_v21 (by decide))).trans (k_scale m g c),
       (hr.1 c _ (mem_uc Cert.KernelIdeal.main_arg0 (by decide))).trans (W13_main_arg0 m g c),
       (hr.1 c _ (mem_uc Cert.KernelIdeal.main_arg1 (by decide))).trans (W13_main_arg1 m g c),
       (hr.1 c _ (mem_uc Cert.KernelIdeal.main_arg2 (by decide))).trans (W13_main_arg2 m g c),
       (hr.1 c _ (mem_uc Cert.KernelIdeal.main_arg3 (by decide))).trans (W13_main_arg3 m g c),
       (hr.1 c _ (mem_uc Cert.KernelIdeal.main_arg4 (by decide))).trans (W13_main_arg4 m g c)⟩) (run_all m g)
  · refine (θ_run Cert.ReferenceIdeal.defs _ _).mono (fun r hr c => ?_) (Ref.run m' g')
    obtain ⟨e0, e1, e2, e3, e4⟩ := hagree c
    obtain ⟨h0, h1, h2, h3, k⟩ := hr c
    rw [e0] at h0 h1
    rw [e0, e2, e3, e4] at h2
    rw [e1, e2, e3, e4] at h3
    exact ⟨h2, h3, h1, h0, k⟩
end Cert.Proof
end
-- ==== Proof.lean ====
module

public import proofs.«01_k».proof.Defs
public import proofs.«01_k».proof.Proof.KernelFrame
public import proofs.«01_k».proof.Proof.Reference
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, ref_frame, trivial, algebraic⟩

end Cert.Proof

end
